-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x96x112x112 : Shape := ⟨4, ![16, 96, 112, 112]⟩
abbrev S_ : Shape := ⟨0, ![]⟩
abbrev S1536x112x112 : Shape := ⟨3, ![1536, 112, 112]⟩
abbrev S1x1 : Shape := ⟨2, ![1, 1]⟩
abbrev S112 : Shape := ⟨1, ![112]⟩
abbrev S1x112 : Shape := ⟨2, ![1, 112]⟩
abbrev S112x1 : Shape := ⟨2, ![112, 1]⟩
abbrev S112x112 : Shape := ⟨2, ![112, 112]⟩
abbrev S192x112x112 : Shape := ⟨3, ![192, 112, 112]⟩
abbrev S16x120x112 : Shape := ⟨3, ![16, 120, 112]⟩
abbrev S1x1x112 : Shape := ⟨3, ![1, 1, 112]⟩
abbrev S16x8x112 : Shape := ⟨3, ![16, 8, 112]⟩
abbrev S16x4x112 : Shape := ⟨3, ![16, 4, 112]⟩
abbrev S16x112x112 : Shape := ⟨3, ![16, 112, 112]⟩
abbrev S16x108x112 : Shape := ⟨3, ![16, 108, 112]⟩
abbrev S1792x112 : Shape := ⟨2, ![1792, 112]⟩
abbrev S1x16x112x112 : Shape := ⟨4, ![1, 16, 112, 112]⟩
abbrev S1 : Shape := ⟨1, ![1]⟩
abbrev S1x1x1x1 : Shape := ⟨4, ![1, 1, 1, 1]⟩

abbrev nBuf : Space → Nat
  | .hbm => 20
  | .vmem => 7
  | .smem => 2
  | _ => 0

abbrev bufTy : (tb : Table) → Fin (tcTables nBuf tb) → BufTy
  | .hbm, ⟨0, _⟩ => ⟨S16x96x112x112, .f32⟩
  | .hbm, ⟨1, _⟩ => ⟨S_, .f32⟩
  | .hbm, ⟨2, _⟩ => ⟨S1536x112x112, .f32⟩
  | .hbm, ⟨3, _⟩ => ⟨S1x1, .f32⟩
  | .hbm, ⟨4, _⟩ => ⟨S112, .i32⟩
  | .hbm, ⟨5, _⟩ => ⟨S1x112, .i32⟩
  | .hbm, ⟨6, _⟩ => ⟨S112, .i32⟩
  | .hbm, ⟨7, _⟩ => ⟨S112x1, .i32⟩
  | .hbm, ⟨8, _⟩ => ⟨S112x112, .i32⟩
  | .hbm, ⟨9, _⟩ => ⟨S112x112, .i32⟩
  | .hbm, ⟨10, _⟩ => ⟨S112x112, .i32⟩
  | .hbm, ⟨11, _⟩ => ⟨S_, .i32⟩
  | .hbm, ⟨12, _⟩ => ⟨S112x112, .i32⟩
  | .hbm, ⟨13, _⟩ => ⟨S112x112, .i1⟩
  | .hbm, ⟨14, _⟩ => ⟨S_, .i32⟩
  | .hbm, ⟨15, _⟩ => ⟨S112x112, .i32⟩
  | .hbm, ⟨16, _⟩ => ⟨S112x112, .i1⟩
  | .hbm, ⟨17, _⟩ => ⟨S112x112, .i1⟩
  | .hbm, ⟨18, _⟩ => ⟨S112x112, .bf16⟩
  | .hbm, ⟨19, _⟩ => ⟨S1536x112x112, .f32⟩
  | .local _ .vmem, ⟨0, _⟩ => ⟨S112x112, .bf16⟩
  | .local _ .vmem, ⟨1, _⟩ => ⟨S192x112x112, .f32⟩
  | .local _ .vmem, ⟨2, _⟩ => ⟨S192x112x112, .f32⟩
  | .local _ .vmem, ⟨3, _⟩ => ⟨S192x112x112, .f32⟩
  | .local _ .vmem, ⟨4, _⟩ => ⟨S192x112x112, .f32⟩
  | .local _ .vmem, ⟨5, _⟩ => ⟨S16x120x112, .f32⟩
  | .local _ .vmem, ⟨6, _⟩ => ⟨S16x120x112, .f32⟩
  | .local _ .smem, ⟨0, _⟩ => ⟨S1x1, .f32⟩
  | .local _ .smem, ⟨1, _⟩ => ⟨S1x1, .f32⟩
  | _, _ => ⟨S16x96x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch1 : Ref sig .tc := ⟨.vmem, 5, rfl⟩
abbrev cc0_scratch2 : Ref sig .tc := ⟨.vmem, 6, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c8_i32_8 : BitVec 32 := 8#32
  let v20 : BitVec 1 := Scalar.cmpi .sge arg0 c8_i32_8
  let v21 : BitVec 32 := Scalar.extui v20
  let c0_i32_9 : BitVec 32 := 0#32
  let v22 : BitVec 1 := Scalar.cmpi .ne v21 c0_i32_9
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S112x112 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x112x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x112x112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x96x112x112 : Shape := ⟨4, ![16, 96, 112, 112]⟩
abbrev S_ : Shape := ⟨0, ![]⟩
abbrev S96 : Shape := ⟨1, ![96]⟩
abbrev S1536x108x112 : Shape := ⟨3, ![1536, 108, 112]⟩
abbrev S16x108x112 : Shape := ⟨3, ![16, 108, 112]⟩
abbrev S1 : Shape := ⟨1, ![1]⟩
abbrev S16x96x108x112 : Shape := ⟨4, ![16, 96, 108, 112]⟩
abbrev S16x96x108x108 : Shape := ⟨4, ![16, 96, 108, 108]⟩
abbrev S1536x112x112 : Shape := ⟨3, ![1536, 112, 112]⟩

abbrev nBuf : Space → Nat
  | .hbm => 34
  | .vmem => 2
  | .smem => 1
  | _ => 0

abbrev bufTy : (tb : Table) → Fin (tcTables nBuf tb) → BufTy
  | .hbm, ⟨0, _⟩ => ⟨S16x96x112x112, .f32⟩
  | .hbm, ⟨1, _⟩ => ⟨S_, .f32⟩
  | .hbm, ⟨2, _⟩ => ⟨S96, .i32⟩
  | .hbm, ⟨3, _⟩ => ⟨S1536x108x112, .i32⟩
  | .hbm, ⟨4, _⟩ => ⟨S16x96x108x112, .i32⟩
  | .hbm, ⟨5, _⟩ => ⟨S16x96x108x108, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S16x96x108x108, .i32⟩
  | .hbm, ⟨18, _⟩ => ⟨S16x96x108x108, .i1⟩
  | .hbm, ⟨19, _⟩ => ⟨S16x96x108x108, .f32⟩
  | .hbm, ⟨20, _⟩ => ⟨S_, .f32⟩
  | .hbm, ⟨21, _⟩ => ⟨S_, .f32⟩
  | .hbm, ⟨22, _⟩ => ⟨S16x96x112x112, .f32⟩
  | .hbm, ⟨23, _⟩ => ⟨S_, .f32⟩
  | .hbm, ⟨24, _⟩ => ⟨S16x96x112x112, .f32⟩
  | .hbm, ⟨25, _⟩ => ⟨S16x96x112x112, .f32⟩
  | .hbm, ⟨26, _⟩ => ⟨S_, .f32⟩
  | .hbm, ⟨27, _⟩ => ⟨S_, .f32⟩
  | .hbm, ⟨28, _⟩ => ⟨S16x96x112x112, .f32⟩
  | .hbm, ⟨29, _⟩ => ⟨S_, .f32⟩
  | .hbm, ⟨30, _⟩ => ⟨S_, .f32⟩
  | .hbm, ⟨31, _⟩ => ⟨S16x96x112x112, .f32⟩
  | .hbm, ⟨32, _⟩ => ⟨S16x96x112x112, .f32⟩
  | .hbm, ⟨33, _⟩ => ⟨S1536x112x112, .f32⟩
  | .local _ .vmem, ⟨0, _⟩ => ⟨S16x108x112, .i32⟩
  | .local _ .vmem, ⟨1, _⟩ => ⟨S16x108x112, .i32⟩
  | .local _ .smem, ⟨0, _⟩ => ⟨S96, .i32⟩
  | _, _ => ⟨S16x96x112x112, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![96], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S96 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x108x112 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Proof.Tiles.lean ====
/-
  WHAT ONE TILE OF THE KERNEL COMPUTES, and what one grid step does with its twelve tiles. A tile is sixteen planes. Its
  mask of block centres (108 rows) is put between the zero rows of a scratch plane (120 rows), five row-shifted loads of
  that plane are maximised, and a product with the banded matrix adds the five lanes before each lane. The definitions
  name these stages once; every tile of every grid step is an instance of them.
-/
module

public import proofs.«01_k».proof.Proof.Gen.KernelIdeal.Frame
public import Idealize.ShloMosaic.Lib.Pipeline.Value
public import Idealize.ShloMosaic.Lib.VecWindow
public import Idealize.ShloMosaic.Lib.Tactic

@[expose] public section

noncomputable section

open Idealize.ShloMosaic Idealize.ShloMosaic.TcCoe Idealize.SL.Sem

namespace Cert.KernelIdeal.Tiles

open Cert.KernelIdeal Cert.KernelIdeal.Gen

variable {F : FTy → Type} [FloatOps F]

/-- The words of the stream that seed `w` starts, laid out over one tile. -/
def tileWords (w : BitVec 32) : IVec S16x108x112 32 :=
  prngBits S16x108x112 rank2_S16x108x112 fun j => prngStream [w.toNat.toUInt32] j

/-- The one word of the gamma table. -/
def gammaOf (g : Vec F S1x1 .f32) : F .f32 := g (Shape.Idx.first (numel1_S1x1 ▸ Nat.one_pos))

/-- A tile's mask: one where the drawn word lies below the lane's limit. -/
def tileMask (g : Vec F S1x1 .f32) (w : BitVec 32) : FVec F S16x108x112 .f32 := k0_pay8 (k0_pay2 (gammaOf g)) (tileWords w)

/-- A mask between the zero rows of the scratch plane. -/
def padded (M : FVec F S16x108x112 .f32) : Vec F S16x120x112 .f32 :=
  VecWindow.put (broadcast S16x120x112 (Scalar.ofBits .f32 0x00000000#32)) ![0, 8, 0] ![16, 108, 112] M

/-- A scratch plane all of whose rows outside the mask's are zero: putting any mask into it gives the padded mask. -/
def Clean (X : Vec F S16x120x112 .f32) : Prop := ∀ M : FVec F S16x108x112 .f32, VecWindow.put X ![0, 8, 0] ![16, 108, 112] M = padded M

theorem clean_padded (M : FVec F S16x108x112 .f32) : Clean (padded M) := fun M' => by
  unfold padded; exact VecWindow.put_put_same (s := S16x120x112) _ _ _ M M'

/-- A second mask put into a padded plane replaces the first. -/
theorem put_padded (M M' : FVec F S16x108x112 .f32) : VecWindow.put (padded M) ![0, 8, 0] ![16, 108, 112] M' = padded M' := clean_padded M M'

/-- A scratch plane whose first eight and last four rows were set to zero is clean, whatever it held. -/
theorem clean_edges (X : Vec F S16x120x112 .f32) :
    Clean (VecWindow.put (VecWindow.put X ![0, 0, 0] ![16, 8, 112] k0_pay3) ![0, 116, 0] ![16, 4, 112] k0_pay4) := by
  intro M
  funext y
  have y0 : (y 0).val < 16 := (y 0).isLt
  have y1 : (y 1).val < 120 := (y 1).isLt
  have y2 : (y 2).val < 112 := (y 2).isLt
  unfold padded VecWindow.put
  split_ifs with h h4 h3
  · rfl
  · rfl
  · rfl
  · exfalso
    have e3 : ¬ (y 1).val < 8 := fun hy => h3 fun a => by
      fin_cases a
      · exact ⟨Nat.zero_le _, (by simpa using y0)⟩
      · exact ⟨Nat.zero_le _, (by simpa using hy)⟩
      · exact ⟨Nat.zero_le _, (by simpa using y2)⟩
    have e4 : ¬ 116 ≤ (y 1).val := fun hy => h4 fun a => by
      fin_cases a
      · exact ⟨Nat.zero_le _, (by simpa using y0)⟩
      · exact ⟨hy, y1⟩
      · exact ⟨Nat.zero_le _, (by simpa using y2)⟩
    exact h fun a => by
      fin_cases a
      · exact ⟨Nat.zero_le _, (by simpa using y0)⟩
      · exact ⟨not_lt.mp e3, not_le.mp e4⟩
      · exact ⟨Nat.zero_le _, (by simpa using y2)⟩

theorem put_edges (X : Vec F S16x120x112 .f32) (M : FVec F S16x108x112 .f32) :
    VecWindow.put (VecWindow.put (VecWindow.put X ![0, 0, 0] ![16, 8, 112] k0_pay3) ![0, 116, 0] ![16, 4, 112] k0_pay4) ![0, 8, 0] ![16, 108, 112] M
      = padded M := clean_edges X M
theorem put_edges' (X : Vec F S16x120x112 .f32) (M : FVec F S16x108x112 .f32) :
    VecWindow.put (VecWindow.put (VecWindow.put X ![0, 0, 0] ![16, 8, 112] k0_pay5) ![0, 116, 0] ![16, 4, 112] k0_pay6) ![0, 8, 0] ![16, 108, 112] M
      = padded M := clean_edges X M

/-- The counts: five row-shifted loads maximised, then the product with the banded matrix `b`. -/
def boxCount (b : Vec F S112x112 .bf16) (X : Vec F S16x120x112 .f32) : FVec F S16x112x112 .f32 :=
  k0_pay41 (k0_pay1 b)
    (VecWindow.window X ![0, 8, 0] ![16, 112, 112] inb_S16x120x112_S16x112x112_0_8_0)
    (VecWindow.window X ![0, 7, 0] ![16, 112, 112] inb_S16x120x112_S16x112x112_0_7_0)
    (VecWindow.window X ![0, 6, 0] ![16, 112, 112] inb_S16x120x112_S16x112x112_0_6_0)
    (VecWindow.window X ![0, 5, 0] ![16, 112, 112] inb_S16x120x112_S16x112x112_0_5_0)
    (VecWindow.window X ![0, 4, 0] ![16, 112, 112] inb_S16x120x112_S16x112x112_0_4_0)

/-- The counts of the tile that seed `w` draws. -/
def tileCount (g : Vec F S1x1 .f32) (b : Vec F S112x112 .bf16) (w : BitVec 32) : FVec F S16x112x112 .f32 := boxCount b (padded (tileMask g w))

/-- The sum over the first `n` tiles after seed `w`, position by position, of the counts capped at one. -/
def part (g : Vec F S1x1 .f32) (b : Vec F S112x112 .bf16) (w : BitVec 32) : ℕ → FVec F S16x112x112 .f32
  | 0 => broadcast S16x112x112 (Scalar.ofBits .f32 0x00000000#32)
  | n + 1 => addf (part g b w n) (minimumf (tileCount g b (Scalar.addi w (BitVec.ofNat 32 n))) (broadcast S16x112x112 (Scalar.ofBits .f32 0x3F800000#32)))

/-- All the entries of a tile added up. -/
def total (v : FVec F S16x112x112 .f32) : F .f32 :=
  extractAt ![0, 0, 0, 0] (shapeCast S1x1x1x1 (multiReduction .add [1, 2, 3] S1 (shapeCast S1x16x112x112 v shapeCasts_S16x112x112_S1x16x112x112)
    0x00000000#32 reduces_S1x16x112x112_S1 (.inl rfl) rfl) shapeCasts_S1_S1x1x1x1) inpos_S1x1x1x1_p0_0_0_0

/-- What a counting step leaves in the accumulator that held `a`. -/
def counted (g : Vec F S1x1 .f32) (b : Vec F S112x112 .bf16) (w : BitVec 32) (a : F .f32) : F .f32 := Scalar.addf a (total (part g b w 12))

/-- The first seed of a counting step and of an applying step. -/
def seedCount (i : grid0.Coords) : BitVec 32 := Scalar.muli (BitVec.ofNat 32 (i 0).val) 12#32
def seedApply (i : grid0.Coords) : BitVec 32 := Scalar.muli (Scalar.subi (BitVec.ofNat 32 (i 0).val) 8#32) 12#32

section Reads

variable {sig' : RefSig} {κ : Kind} {sp : Space} {s : Shape} {e : EltTy} {Val : EltTy → Type} (v : View sig' κ sp s e)

/-- A load through a box at offsets `off` is the window there. -/
theorem load_window (f : v.ty.Contents Val) (off size : Fin s.rank → ℕ) (inb : ∀ a, off a + size a ≤ s.size a) :
    v.readAt Val (Rect.unit off size inb).toLoadRect f = VecWindow.window (v.read Val f) off size inb := rfl

/-- The same after stores that cover the box. -/
theorem load_window_cov [∀ e, Nonempty (Val e)] (L : List (View.Piece Val s e)) (off size : Fin s.rank → ℕ) (inb : ∀ a, off a + size a ≤ s.size a) :
    v.readCov L (Rect.unit off size inb).toLoadRect = VecWindow.window (v.read Val (v.writes Val v.junk L)) off size inb := rfl

/-- The last store is put over what the earlier ones left. -/
theorem store_put (f : v.ty.Contents Val) (off size : Fin s.rank → ℕ) (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A window of the buffer's own sizes is the whole of it. -/
theorem window_whole {α : Type} (x : s.Idx → α) (off : Fin s.rank → ℕ) (inb : ∀ a, off a + s.size a ≤ s.size a) :
    VecWindow.window x off s.size inb = x :=
  funext fun y => congrArg x (funext fun a => Fin.ext (by
    show off a + 1 * (y a).val = (y a).val
    have := inb a; omega))

/-- A put of the buffer's own sizes replaces the whole of it. -/
theorem put_whole {α : Type} (x w : s.Idx → α) (off : Fin s.rank → ℕ) (inb : ∀ a, off a + s.size a ≤ s.size a) :
    VecWindow.put x off s.size w = w := by
  funext y
  have h0 : ∀ a, off a = 0 := fun a => by have := inb a; omega
  have h : ∀ a, off a ≤ (y a).val ∧ (y a).val < off a + s.size a := fun a => by have := h0 a; have := (y a).isLt; omega
  refine (dif_pos h).trans (congrArg w (funext fun a => Fin.ext ?_))
  show (y a).val - off a = (y a).val
  rw [h0 a, Nat.sub_zero]

end Reads

theorem window_gamma (x : Vec F S1x1 .f32) (inb) : VecWindow.window (s := S1x1) x ![0, 0] ![1, 1] inb = x := window_whole (s := S1x1) x _ inb
theorem window_band (x : Vec F S112x112 .bf16) (inb) : VecWindow.window (s := S112x112) x ![0, 0] ![112, 112] inb = x := window_whole (s := S112x112) x _ inb
theorem put_acc (x w : Vec F S1x1 .f32) : VecWindow.put (s := S1x1) x ![0, 0] ![1, 1] w = w := put_whole (s := S1x1) x w _ inb_S1x1_S1x1_0_0

end Cert.KernelIdeal.Tiles
-- ==== Proof.CountStep.lean ====
/-
  WHAT A COUNTING STEP LEAVES. Between the first step and the eighth, a grid step adds to the accumulator the number of
  positions its twelve tiles drop, and leaves both scratch planes clean (every row outside the mask's rows is zero).
-/
module

public import proofs.«01_k».proof.Proof.Tiles

@[expose] public section

noncomputable section

open Idealize.ShloMosaic Idealize.ShloMosaic.TcCoe Idealize.SL.Sem

namespace Cert.KernelIdeal.CountStep

open Cert.KernelIdeal Cert.KernelIdeal.Gen Cert.KernelIdeal.Tiles

variable {F : FTy → Type} [FloatOps F]

variable (c : Dev nD) (i : grid0.Coords) (arg1 : Memref sig .tc .smem S1x1 .f32) (harg1 : arg1.IsWhole) (arg2 : Memref sig .tc .vmem S112x112 .bf16) (harg2 : arg2.IsWhole)
  (arg3 : Memref sig .tc .vmem S192x112x112 .f32) (harg3 : arg3.IsWhole) (arg4 : Memref sig .tc .vmem S192x112x112 .f32) (harg4 : arg4.IsWhole)
  (arg5 : Memref sig .tc .smem S1x1 .f32) (harg5 : arg5.IsWhole) (arg6 : Memref sig .tc .vmem S16x120x112 .f32) (harg6 : arg6.IsWhole)
  (arg7 : Memref sig .tc .vmem S16x120x112 .f32) (harg7 : arg7.IsWhole)
  (x0 : Vec F S1x1 .f32) (x1 : Vec F S112x112 .bf16) (x2 : Vec F S192x112x112 .f32) (xs0 : Vec F S1x1 .f32) (xs1 xs2 : Vec F S16x120x112 .f32) (g : PrngReg)

/-- The accumulator after a later counting step. -/
theorem acc_B (hc0 : ¬cond0_0 i) (hc1 : cond0_1 i) (hc2 : ¬cond0_2 i) (h1 : Clean xs1) (h2 : Clean xs2) :
    sout0_B_0 c i arg1 harg1 arg2 harg2 arg3 harg3 arg4 harg4 arg5 harg5 arg6 harg6 arg7 harg7 hc0 hc1 hc2 x0 x1 x2 xs0 xs1 xs2 g
      = fun _ => counted x0 x1 (seedCount i) (gammaOf xs0) := by
  unfold sout0_B_0 kernelRun0_B
  dsimp only
  sl_unfold_words
  simp only [load_window, store_put, View.writes_nil, harg1.read_unread, harg2.read_unread, harg5.read_unread, harg6.read_unread, harg7.read_unread,
    VecWindow.put_put_same, h1 _, h2 _, put_padded (F := F), window_gamma (F := F), window_band (F := F), put_acc (F := F), Nat.zero_add, List.map_cons, List.map_nil]
  simp only [counted, total, part, tileCount, boxCount, tileMask, tileWords, gammaOf, seedCount,
    k0_pay8, k0_pay9, k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay41]
  rfl

/-- Scratch plane 1 after a later counting step. -/
theorem clean_B_1 (hc0 : ¬cond0_0 i) (hc1 : cond0_1 i) (hc2 : ¬cond0_2 i) (h : Clean xs1) :
    Clean (F := F) (sout0_B_1 c i arg1 harg1 arg2 harg2 arg3 harg3 arg4 harg4 arg5 harg5 arg6 harg6 arg7 harg7 hc0 hc1 hc2 x0 x1 x2 xs0 xs1 xs2 g) := by
  unfold sout0_B_1 kernelRun0_B
  dsimp only
  sl_unfold_words
  simp only [load_window, store_put, View.writes_nil, harg6.read_unread, harg7.read_unread, VecWindow.put_put_same, h _, put_padded (F := F)]
  exact clean_padded (F := F) _

/-- Scratch plane 2 after a later counting step. -/
theorem clean_B_2 (hc0 : ¬cond0_0 i) (hc1 : cond0_1 i) (hc2 : ¬cond0_2 i) (h : Clean xs2) :
    Clean (F := F) (sout0_B_2 c i arg1 harg1 arg2 harg2 arg3 harg3 arg4 harg4 arg5 harg5 arg6 harg6 arg7 harg7 hc0 hc1 hc2 x0 x1 x2 xs0 xs1 xs2 g) := by
  unfold sout0_B_2 kernelRun0_B
  dsimp only
  sl_unfold_words
  simp only [load_window, store_put, View.writes_nil, harg6.read_unread, harg7.read_unread, VecWindow.put_put_same, h _, put_padded (F := F)]
  exact clean_padded (F := F) _

/-- The accumulator after the first counting step, which resets it. -/
theorem acc_A (hc0 : cond0_0 i) (hc1 : cond0_1 i) (hc2 : ¬cond0_2 i) :
    sout0_A_0 c i arg1 harg1 arg2 harg2 arg3 harg3 arg4 harg4 arg5 harg5 arg6 harg6 arg7 harg7 hc0 hc1 hc2 x0 x1 x2 g
      = fun _ => counted x0 x1 (seedCount i) (Scalar.ofBits .f32 0x00000000#32) := by
  unfold sout0_A_0 kernelRun0_A
  dsimp only
  sl_unfold_words
  simp only [load_window, load_window_cov, store_put, View.writes_nil, harg1.read_unread, harg2.read_unread, harg5.read_unread, harg6.read_unread, harg7.read_unread,
    VecWindow.put_put_same, put_edges (F := F), put_edges' (F := F), put_padded (F := F), window_gamma (F := F), window_band (F := F), put_acc (F := F), Nat.zero_add, List.map_cons, List.map_nil]
  simp only [counted, total, part, tileCount, boxCount, tileMask, tileWords, gammaOf, seedCount,
    k0_pay8, k0_pay9, k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33, k0_pay34, k0_pay35,
    k0_pay36, k0_pay37, k0_pay38, k0_pay41]
  rfl

/-- Scratch plane 1 after the first counting step, which sets its outer rows to zero. -/
theorem clean_A_1 (hc0 : cond0_0 i) (hc1 : cond0_1 i) (hc2 : ¬cond0_2 i) :
    Clean (F := F) (sout0_A_1 c i arg1 harg1 arg2 harg2 arg3 harg3 arg4 harg4 arg5 harg5 arg6 harg6 arg7 harg7 hc0 hc1 hc2 x0 x1 x2 g) := by
  unfold sout0_A_1 kernelRun0_A
  dsimp only
  sl_unfold_words
  simp only [load_window, load_window_cov, store_put, View.writes_nil, VecWindow.put_put_same, put_edges (F := F), put_edges' (F := F), put_padded (F := F)]
  exact clean_padded (F := F) _

/-- Scratch plane 2 after the first counting step, which sets its outer rows to zero. -/
theorem clean_A_2 (hc0 : cond0_0 i) (hc1 : cond0_1 i) (hc2 : ¬cond0_2 i) :
    Clean (F := F) (sout0_A_2 c i arg1 harg1 arg2 harg2 arg3 harg3 arg4 harg4 arg5 harg5 arg6 harg6 arg7 harg7 hc0 hc1 hc2 x0 x1 x2 g) := by
  unfold sout0_A_2 kernelRun0_A
  dsimp only
  sl_unfold_words
  simp only [load_window, load_window_cov, store_put, View.writes_nil, VecWindow.put_put_same, put_edges (F := F), put_edges' (F := F), put_padded (F := F)]
  exact clean_padded (F := F) _

end Cert.KernelIdeal.CountStep
-- ==== Proof.ApplyStep.lean ====
/-
  WHAT AN APPLYING STEP LEAVES. A grid step of the second half draws its twelve tiles again, and writes each of the twelve
  tiles of its output block: zero where the tile's count is above one half, the input times the scale elsewhere.
-/
module

public import proofs.«01_k».proof.Proof.Tiles
public import Idealize.ShloMosaic.Lib.ValueIdx

@[expose] public section

noncomputable section

open Idealize.ShloMosaic Idealize.ShloMosaic.TcCoe Idealize.SL.Sem

namespace Cert.KernelIdeal.ApplyStep

open Cert.KernelIdeal Cert.KernelIdeal.Gen Cert.KernelIdeal.Tiles ValueIdx

variable {F : FTy → Type} [FloatOps F]

/-- One output element, from its count, the input there and the scale. -/
def dropOr (cnt v scale : F .f32) : F .f32 :=
  Scalar.select (FloatOps.cmpf .ogt cnt (Scalar.ofBits .f32 0x3F000000#32)) (Scalar.ofBits .f32 0x00000000#32) (FloatOps.mulf v scale)

/-- The output block of a step whose first seed is `w`, when the accumulator holds `a`. -/
def applied (g : Vec F S1x1 .f32) (b : Vec F S112x112 .bf16) (x : Vec F S192x112x112 .f32) (w : BitVec 32) (a : F .f32) (y : S192x112x112.Idx) : F .f32 :=
  dropOr (tileCount g b (Scalar.addi w (BitVec.ofNat 32 ((y 0).val / 16))) (ix3 (⟨(y 0).val % 16, Nat.mod_lt _ (by norm_num)⟩ : Fin 16) (y 1) (y 2)))
    (x y) (k0_pay39 a)

/-- Tile `k` of that block as the kernel stores it. -/
def tilePiece (g : Vec F S1x1 .f32) (b : Vec F S112x112 .bf16) (x : Vec F S192x112x112 .f32) (w : BitVec 32) (a : F .f32) (k : ℕ)
    (inb : ∀ j, (![16 * k, 0, 0] : Fin S192x112x112.rank → ℕ) j + (![16, 112, 112] : Fin S192x112x112.rank → ℕ) j ≤ S192x112x112.size j) :
    View.Piece (Elt F) S192x112x112 .f32 :=
  ⟨Rect.unit ![16 * k, 0, 0] ![16, 112, 112] inb,
    k0_pay43 (k0_pay39 a) (tileCount g b (Scalar.addi w (BitVec.ofNat 32 k))) k0_pay42 (VecWindow.window x ![16 * k, 0, 0] ![16, 112, 112] inb)⟩

/-- What tile `k` stores is the block's value at the place it is stored. -/
theorem tilePiece_eq (g : Vec F S1x1 .f32) (b : Vec F S112x112 .bf16) (x : Vec F S192x112x112 .f32) (w : BitVec 32) (a : F .f32) (k : ℕ) (inb)
    (z : (tilePiece g b x w a k inb).1.shape.Idx) :
    (tilePiece g b x w a k inb).2 z = applied g b x w a ((tilePiece g b x w a k inb).1.emb z) := by
  have z0 : (z 0).val < 16 := (z 0).isLt
  have e0 : ((tilePiece g b x w a k inb).1.emb z 0).val = 16 * k + 1 * (z 0).val := rfl
  have ek : ((tilePiece g b x w a k inb).1.emb z 0).val / 16 = k := by rw [e0]; omega
  have em : ((tilePiece g b x w a k inb).1.emb z 0).val % 16 = (z 0).val := by rw [e0]; omega
  have ez : (ix3 (⟨((tilePiece g b x w a k inb).1.emb z 0).val % 16, Nat.mod_lt _ (by norm_num)⟩ : Fin 16) ((tilePiece g b x w a k inb).1.emb z 1)
      ((tilePiece g b x w a k inb).1.emb z 2) : S16x112x112.Idx) = z := by
    funext j
    fin_cases j
    · exact Fin.ext em
    · exact Fin.ext (show 0 + 1 * (z 1).val = (z 1).val by omega)
    · exact Fin.ext (show 0 + 1 * (z 2).val = (z 2).val by omega)
  unfold applied
  rw [ek, ez]
  unfold tilePiece
  dsimp only
  unfold k0_pay43 k0_pay42
  dsimp only
  rw [shapeCast_self]
  rfl

variable (c : Dev nD) (i : grid0.Coords) (arg1 : Memref sig .tc .smem S1x1 .f32) (harg1 : arg1.IsWhole) (arg2 : Memref sig .tc .vmem S112x112 .bf16) (harg2 : arg2.IsWhole)
  (arg3 : Memref sig .tc .vmem S192x112x112 .f32) (harg3 : arg3.IsWhole) (arg4 : Memref sig .tc .vmem S192x112x112 .f32) (harg4 : arg4.IsWhole)
  (arg5 : Memref sig .tc .smem S1x1 .f32) (harg5 : arg5.IsWhole) (arg6 : Memref sig .tc .vmem S16x120x112 .f32) (harg6 : arg6.IsWhole)
  (arg7 : Memref sig .tc .vmem S16x120x112 .f32) (harg7 : arg7.IsWhole)
  (x0 : Vec F S1x1 .f32) (x1 : Vec F S112x112 .bf16) (x2 : Vec F S192x112x112 .f32) (xs0 : Vec F S1x1 .f32) (xs1 xs2 : Vec F S16x120x112 .f32) (g : PrngReg)

/-- The twelve stores of an applying step. -/
theorem pieces_C (hc0 : ¬cond0_0 i) (hc1 : ¬cond0_1 i) (hc2 : cond0_2 i) (h1 : Clean xs1) (h2 : Clean xs2) :
    (kernelRun0_C c i arg1 harg1 arg2 harg2 arg3 harg3 arg4 harg4 arg5 harg5 arg6 harg6 arg7 harg7 hc0 hc1 hc2 x0 x1 x2 xs0 xs1 xs2 g).1
      = [tilePiece x0 x1 x2 (seedApply i) (gammaOf xs0) 11 inb_S192x112x112_S16x112x112_176_0_0,
        tilePiece x0 x1 x2 (seedApply i) (gammaOf xs0) 10 inb_S192x112x112_S16x112x112_160_0_0,
        tilePiece x0 x1 x2 (seedApply i) (gammaOf xs0) 9 inb_S192x112x112_S16x112x112_144_0_0,
        tilePiece x0 x1 x2 (seedApply i) (gammaOf xs0) 8 inb_S192x112x112_S16x112x112_128_0_0,
        tilePiece x0 x1 x2 (seedApply i) (gammaOf xs0) 7 inb_S192x112x112_S16x112x112_112_0_0,
        tilePiece x0 x1 x2 (seedApply i) (gammaOf xs0) 6 inb_S192x112x112_S16x112x112_96_0_0,
        tilePiece x0 x1 x2 (seedApply i) (gammaOf xs0) 5 inb_S192x112x112_S16x112x112_80_0_0,
        tilePiece x0 x1 x2 (seedApply i) (gammaOf xs0) 4 inb_S192x112x112_S16x112x112_64_0_0,
        tilePiece x0 x1 x2 (seedApply i) (gammaOf xs0) 3 inb_S192x112x112_S16x112x112_48_0_0,
        tilePiece x0 x1 x2 (seedApply i) (gammaOf xs0) 2 inb_S192x112x112_S16x112x112_32_0_0,
        tilePiece x0 x1 x2 (seedApply i) (gammaOf xs0) 1 inb_S192x112x112_S16x112x112_16_0_0,
        tilePiece x0 x1 x2 (seedApply i) (gammaOf xs0) 0 inb_S192x112x112_S16x112x112_0_0_0] := by
  unfold kernelRun0_C
  dsimp only
  sl_unfold_words
  simp only [load_window, store_put, View.writes_nil, harg1.read_unread, harg2.read_unread, harg3.read_unread, harg5.read_unread, harg6.read_unread,
    harg7.read_unread, VecWindow.put_put_same, h1 _, h2 _, put_padded (F := F), window_gamma (F := F), window_band (F := F), Nat.zero_add, List.map_cons, List.map_nil]
  simp only [tilePiece, tileCount, boxCount, tileMask, tileWords, gammaOf, seedApply, k0_pay7, k0_pay8, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77]

/-- The output block after an applying step. -/
theorem out_C (hc0 : ¬cond0_0 i) (hc1 : ¬cond0_1 i) (hc2 : cond0_2 i) (h1 : Clean xs1) (h2 : Clean xs2) :
    out0_C_3 c i arg1 harg1 arg2 harg2 arg3 harg3 arg4 harg4 arg5 harg5 arg6 harg6 arg7 harg7 hc0 hc1 hc2 x0 x1 x2 xs0 xs1 xs2 g
      = applied x0 x1 x2 (seedApply i) (gammaOf xs0) := by
  funext y
  have hcov := cover0_C_3 c i arg1 harg1 arg2 harg2 arg3 harg3 arg4 harg4 arg5 harg5 arg6 harg6 arg7 harg7 hc0 hc1 hc2 x0 x1 x2 xs0 xs1 xs2 g y
  unfold out0_C_3
  rw [View.read_writes_junk_eq_canon]
  rw [pieces_C c i arg1 harg1 arg2 harg2 arg3 harg3 arg4 harg4 arg5 harg5 arg6 harg6 arg7 harg7 x0 x1 x2 xs0 xs1 xs2 g hc0 hc1 hc2 h1 h2] at hcov ⊢
  refine View.canon_apply_of_pieces _ _ ?_ y hcov
  intro p hp
  simp only [List.mem_cons, List.not_mem_nil, or_false] at hp
  rcases hp with rfl | rfl | rfl | rfl | rfl | rfl | rfl | rfl | rfl | rfl | rfl | rfl <;> exact tilePiece_eq _ _ _ _ _ _ _

/-- Scratch plane 1 after an applying step. -/
theorem clean_C_1 (hc0 : ¬cond0_0 i) (hc1 : ¬cond0_1 i) (hc2 : cond0_2 i) (h : Clean xs1) :
    Clean (F := F) (sout0_C_1 c i arg1 harg1 arg2 harg2 arg3 harg3 arg4 harg4 arg5 harg5 arg6 harg6 arg7 harg7 hc0 hc1 hc2 x0 x1 x2 xs0 xs1 xs2 g) := by
  unfold sout0_C_1 kernelRun0_C
  dsimp only
  sl_unfold_words
  simp only [load_window, store_put, View.writes_nil, harg6.read_unread, harg7.read_unread, VecWindow.put_put_same, h _, put_padded (F := F)]
  exact clean_padded (F := F) _

/-- Scratch plane 2 after an applying step. -/
theorem clean_C_2 (hc0 : ¬cond0_0 i) (hc1 : ¬cond0_1 i) (hc2 : cond0_2 i) (h : Clean xs2) :
    Clean (F := F) (sout0_C_2 c i arg1 harg1 arg2 harg2 arg3 harg3 arg4 harg4 arg5 harg5 arg6 harg6 arg7 harg7 hc0 hc1 hc2 x0 x1 x2 xs0 xs1 xs2 g) := by
  unfold sout0_C_2 kernelRun0_C
  dsimp only
  sl_unfold_words
  simp only [load_window, store_put, View.writes_nil, harg6.read_unread, harg7.read_unread, VecWindow.put_put_same, h _, put_padded (F := F)]
  exact clean_padded (F := F) _

end Cert.KernelIdeal.ApplyStep
-- ==== Proof.Region.lean ====
/-
  WHAT THE KERNEL'S REGION LEAVES IN ITS RESULT. The grid steps one after another: the accumulator after each of them, the
  scratch planes' outer rows zero throughout, and each element of the result array as one formula in the three arrays the
  region reads (gamma, the banded matrix, the input planes).
-/
module

public import proofs.«01_k».proof.Proof.CountStep
public import proofs.«01_k».proof.Proof.ApplyStep
public import Idealize.ShloMosaic.Lib.Pipeline.ValueKit

@[expose] public section

set_option maxRecDepth 16384

noncomputable section

open Idealize.ShloMosaic Idealize.ShloMosaic.TcCoe Idealize.SL.Sem

namespace Cert.KernelIdeal.Region

open Cert.KernelIdeal Cert.KernelIdeal.Gen Cert.KernelIdeal.Tiles Cert.KernelIdeal.CountStep Cert.KernelIdeal.ApplyStep ValueIdx

variable {F : FTy → Type} [FloatOps F]

/-- The accumulator after grid step `n`. -/
def accAfter (g : Vec F S1x1 .f32) (b : Vec F S112x112 .bf16) : ℕ → F .f32
  | 0 => counted g b (Scalar.muli (BitVec.ofNat 32 0) 12#32) (Scalar.ofBits .f32 0x00000000#32)
  | n + 1 => if n + 1 < 8 then counted g b (Scalar.muli (BitVec.ofNat 32 (n + 1)) 12#32) (accAfter g b n) else accAfter g b n

theorem accAfter_of_le (g : Vec F S1x1 .f32) (b : Vec F S112x112 .bf16) (n : ℕ) (h : 7 ≤ n) : accAfter g b n = accAfter g b 7 := by
  induction n, h using Nat.le_induction with
  | base => rfl
  | succ n hn ih => rw [← ih]; exact if_neg (by omega)

/-- The result element at `j`. -/
def result (g : Vec F S1x1 .f32) (b : Vec F S112x112 .bf16) (x : Vec F S1536x112x112 .f32) (j : S1536x112x112.Idx) : F .f32 :=
  dropOr (tileCount g b (BitVec.ofNat 32 ((j 0).val / 16)) (ValueIdx.ix3 (⟨(j 0).val % 16, Nat.mod_lt _ (by norm_num)⟩ : Fin 16) (j 1) (j 2)))
    (x j) (k0_pay39 (accAfter g b 7))

theorem coords_zero (t : Fin cfg0.N) : (grid0.coords t 0).val = t.val := by
  have ht : t.val < 16 := Nat.lt_of_lt_of_eq t.isLt N_0
  have e : (grid0.coords t 0).val = t.val / 1 % 16 := Pipeline.Grid.coords_val t 0 (by decide) rfl
  rw [e]; omega

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![t.val - 8, 0, 0] :=
  (by decide +kernel : ∀ t : Fin grid0.N, win0_2.index t = ![t.val - 8, 0, 0])
theorem idx3 : ∀ t : Fin cfg0.N, win0_3.index t = ![t.val - 8, 0, 0] :=
  (by decide +kernel : ∀ t : Fin grid0.N, win0_3.index t = ![t.val - 8, 0, 0])

variable (m : (ℓ : Loc nD τ sig) → Buf (Elt F) ℓ)

/-- The arrays the region reads. -/
def gammaArr (c : Dev nD) : Vec F S1x1 .f32 := V m c main_v1
def bandArr (c : Dev nD) : Vec F S112x112 .bf16 := V m c main_v14
def planes (c : Dev nD) : Vec F S1536x112x112 .f32 := V m c main_v0

theorem iblk_gamma (c : Dev nD) (t : Fin cfg0.N) : iblk m c 0 t = gammaArr m c := by
  funext y
  unfold gammaArr
  blk_ext [iblk, idx0]

theorem iblk_band (c : Dev nD) (t : Fin cfg0.N) : iblk m c 1 t = bandArr m c := by
  funext y
  unfold bandArr
  blk_ext [iblk, idx1]

/-- After grid step `n`: the accumulator, and the two scratch planes clean. -/
theorem after_step (c : Dev nD) : ∀ (n : ℕ) (hn : n < cfg0.N),
    (outsAt0 m c n hn).2.1 = (fun _ => accAfter (gammaArr m c) (bandArr m c) n)
      ∧ Clean (outsAt0 m c n hn).2.2.1 ∧ Clean (outsAt0 m c n hn).2.2.2 := by
  intro n
  induction n with
  | zero =>
    intro hn
    have e := outsAt0_A m c ⟨0, hn⟩ (Nat.zero_mod _) (by show 0 < 8; omega) (by show ¬ 8 ≤ 0; omega)
    rw [show outsAt0 m c 0 hn = _ from e]
    dsimp only
    refine ⟨?_, by apply clean_A_1, by apply clean_A_2⟩
    rw [acc_A, iblk_gamma, iblk_band]
    unfold seedCount
    rw [coords_zero]
    rfl
  | succ n ih =>
    intro hn
    have h16 : n + 1 < 16 := lt_of_lt_of_eq hn (show cfg0.N = 16 from N_0)
    obtain ⟨ia, i1, i2⟩ := ih (Nat.lt_of_succ_lt hn)
    by_cases h8 : n + 1 < 8
    · have e := outsAt0_B m c ⟨n + 1, hn⟩ (by show ¬ (n + 1) % 16 = 0; omega) h8 (by show ¬ 8 ≤ n + 1; omega)
      rw [show outsAt0 m c (n + 1) hn = _ from e]
      dsimp only
      refine ⟨?_, by apply clean_B_1 (h := i1), by apply clean_B_2 (h := i2)⟩
      refine (acc_B (h1 := i1) (h2 := i2) ..).trans ?_
      rw [iblk_gamma, iblk_band]
      unfold seedCount
      rw [coords_zero]
      funext _
      show counted _ _ _ (gammaOf (outsAt0 m c n _).2.1) = if n + 1 < 8 then _ else _
      rw [if_pos h8, ia]
      rfl
    · have e := outsAt0_C m c ⟨n + 1, hn⟩ (by show ¬ (n + 1) % 16 = 0; omega) h8 (by show 8 ≤ n + 1; omega)
      rw [show outsAt0 m c (n + 1) hn = _ from e]
      dsimp only
      refine ⟨?_, by apply clean_C_1 (h := i1), by apply clean_C_2 (h := i2)⟩
      refine ia.trans (funext fun _ => ?_)
      show _ = if n + 1 < 8 then _ else _
      rw [if_neg h8]

/-- The block an applying step leaves. -/
theorem out_step (c : Dev nD) (t : Fin cfg0.N) (h8 : 8 ≤ t.val) :
    (outsAt0 m c t.val t.isLt).1
      = applied (gammaArr m c) (bandArr m c) (iblk m c 2 t) (Scalar.muli (Scalar.subi (BitVec.ofNat 32 t.val) 8#32) 12#32)
          (accAfter (gammaArr m c) (bandArr m c) 7) := by
  have ht : t.val < 16 := Nat.lt_of_lt_of_eq t.isLt N_0
  obtain ⟨ia, i1, i2⟩ := after_step m c (t.val - 1) (Nat.lt_of_le_of_lt (Nat.sub_le _ _) t.isLt)
  rw [outsAt0_C m c t (by omega) (by omega) h8]
  dsimp only
  rw [out_C (h1 := i1) (h2 := i2)]
  rw [iblk_gamma, iblk_band]
  unfold seedApply
  rw [coords_zero, ia, accAfter_of_le _ _ _ (by omega)]
  rfl

/-- The seed an applying step takes for a plane is the plane's number over 16. -/
theorem seed_apply (t : ℕ) (h8 : 8 ≤ t) (ht : t < 16) (y : ℕ) (hy : y < 192) (j : ℕ) (hj : j = (t - 8) * 192 + y) :
    Scalar.addi (Scalar.muli (Scalar.subi (BitVec.ofNat 32 t) 8#32) 12#32) (BitVec.ofNat 32 (y / 16)) = BitVec.ofNat 32 (j / 16) := by
  show (BitVec.ofNat 32 t - 8#32) * 12#32 + BitVec.ofNat 32 (y / 16) = BitVec.ofNat 32 (j / 16)
  apply BitVec.eq_of_toNat_eq
  simp only [BitVec.toNat_add, BitVec.toNat_mul, BitVec.toNat_sub, BitVec.toNat_ofNat]
  omega

/-- THE RESULT ARRAY: element by element the formula over the arrays the region reads. -/
theorem array_eq (c : Dev nD) :
    (dats m 0 c).arrAt 3 cfg0.N = result (gammaArr m c) (bandArr m c) (planes m c) := by
  refine (dats m 0 c).arrAt_eq_of_covers 3 _ (by decide +kernel) fun t hf y => ?_
  have ht : t.val < 16 := Nat.lt_of_lt_of_eq t.isLt N_0
  have h8 : 8 ≤ t.val := by
    by_contra hlt
    by_cases h0 : t.val % 16 = 0
    · exact absurd hf (by rw [noFlush0_3_A t ((hcond0_0 t).mpr h0) ((hcond0_1 t).mpr (by omega)) (fun h => hlt ((hcond0_2 t).mp h))]; exact Bool.false_ne_true)
    · exact absurd hf (by rw [noFlush0_3_B t (fun h => h0 ((hcond0_0 t).mp h)) ((hcond0_1 t).mpr (by omega)) (fun h => hlt ((hcond0_2 t).mp h))]; exact Bool.false_ne_true)
  blk_simp
  rw [after0_3, out_step m c t h8]
  have hy0 : (y 0).val < 192 := (y 0).isLt
  have e0 : ((((cfg0.win 3).blk t).view.emb y) 0).val = (t.val - 8) * 192 + (y 0).val := by blk_simp [idx3]
  have e1 : ((((cfg0.win 3).blk t).view.emb y) 1).val = (y 1).val := by blk_simp [idx3]
  have e2 : ((((cfg0.win 3).blk t).view.emb y) 2).val = (y 2).val := by blk_simp [idx3]
  have ex : iblk m c 2 t y = planes m c (((cfg0.win 3).blk t).view.emb y) := by
    unfold planes
    blk_ext [iblk, idx2, idx3]
  generalize ((cfg0.win 3).blk t).view.emb y = j at e0 e1 e2 ex ⊢
  unfold applied result
  rw [ex, seed_apply t.val h8 ht (y 0).val hy0 (j 0).val e0]
  have hj : (ValueIdx.ix3 (⟨(y 0).val % 16, Nat.mod_lt _ (by norm_num)⟩ : Fin 16) (y 1) (y 2) : S16x112x112.Idx)
      = ValueIdx.ix3 (⟨(j 0).val % 16, Nat.mod_lt _ (by norm_num)⟩ : Fin 16) (j 1) (j 2) := by
    funext a
    fin_cases a
    · exact Fin.ext (show (y 0).val % 16 = (j 0).val % 16 by omega)
    · exact Fin.ext e1.symm
    · exact Fin.ext e2.symm
  exact congrArg (fun z => dropOr (tileCount (gammaArr m c) (bandArr m c) (BitVec.ofNat 32 ((j 0).val / 16)) z) (planes m c j) _) hj

end Cert.KernelIdeal.Region
-- ==== Proof.TileIdeal.lean ====
/-
  A TILE OVER THE EXTENDED REALS. A position of a plane is dropped when some drawn word below the limit has its five by
  five box over it. Over the extended reals the kernel's capped count at a position is one where the position is dropped
  and zero elsewhere, and its count exceeds one half exactly there.
-/
module

public import proofs.«01_k».proof.Proof.Tiles
public import Idealize.ShloMosaic.Lib.ValueIdx
public import Idealize.ShloMosaic.Lib.MatmulPlain
public import Idealize.ShloMosaic.PureOps.Ideal.Laws

@[expose] public section

noncomputable section

open Idealize.ShloMosaic Idealize.ShloMosaic.TcCoe Idealize.SL.Sem
open scoped BigOperators

namespace Cert.KernelIdeal.TileIdeal

open Cert.KernelIdeal Cert.KernelIdeal.Gen Cert.KernelIdeal.Tiles

attribute [local instance] Classical.propDecidable

/-! ## The quantities -/

/-- One where a statement holds, zero elsewhere. -/
def ind (p : Prop) : EReal := if p then 1 else 0

theorem ind_max (p q : Prop) : max (ind p) (ind q) = ind (p ∨ q) := by
  unfold ind; by_cases hp : p <;> by_cases hq : q <;> simp [hp, hq]

theorem ind_mul (p q : Prop) : ind p * ind q = ind (p ∧ q) := by
  unfold ind; by_cases hp : p <;> by_cases hq : q <;> simp [hp, hq]

theorem ind_congr {p q : Prop} (h : p ↔ q) : ind p = ind q := by rw [propext h]

/-- The limit a word is compared with: gamma clipped to the unit interval, scaled to the range of the 32-bit integers. -/
def limit (g : EReal) : BitVec 32 := Ideal.fptosi 32 (min 1 (max 0 g) * ((4294967296 : ℝ) : EReal) - ((2147483648 : ℝ) : EReal))

/-- The word of stream `s` at a place of its tile lies below `L` (the last four lanes are no block centres). -/
def Hit (s : BitVec 32) (L : BitVec 32) (q : Fin 16) (r : Fin 108) (k : Fin 112) : Prop :=
  k.val < 108 ∧ (tileWords s (ValueIdx.ix3 q r k)).slt L = true

/-- Some block centre's box covers the position. -/
def Dropped (s : BitVec 32) (L : BitVec 32) (q : Fin 16) (h w : ℕ) : Prop :=
  ∃ (r : Fin 108) (k : Fin 112), Hit s L q r k ∧ (r.val ≤ h ∧ h < r.val + 5) ∧ (k.val ≤ w ∧ w < k.val + 5)

/-! ## Constants -/

theorem one_f32 : Ideal.ofBits .f32 0x3F800000#32 = 1 := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem range_f32 : Ideal.ofBits .f32 0x4F800000#32 = ((4294967296 : ℝ) : EReal) := by
  simp [Ideal.ofBits, Ideal.ieee, -EReal.coe_mul]; norm_num
theorem low_f32 : Ideal.ofBits .f32 0xCF000000#32 = -((2147483648 : ℝ) : EReal) := by
  simp [Ideal.ofBits, Ideal.ieee, -EReal.coe_mul]; norm_num
theorem high_f32 : Ideal.ofBits .f32 0x4F000000#32 = ((2147483648 : ℝ) : EReal) := by
  simp [Ideal.ofBits, Ideal.ieee, -EReal.coe_mul]; norm_num
theorem positions_f32 : Ideal.ofBits .f32 0x4B930000#32 = ((19267584 : ℝ) : EReal) := by
  simp [Ideal.ofBits, Ideal.ieee, -EReal.coe_mul]; norm_num
theorem bottom_f32 : Ideal.ofBits .f32 0xFF800000#32 = ⊥ := by
  simp [Ideal.ofBits, Ideal.ieee]

/-! ## The mask -/

theorem lane_lt : ∀ n : Fin 112, IntOp.cmpi .slt (BitVec.ofNat 32 n.val) 108#32 = if n.val < 108 then 1#1 else 0#1 := by decide

/-- The lane's limit as the kernel lays it out: the last four lanes carry the least integer. -/
theorem limits_apply (g : EReal) (i : S1x1x112.Idx) :
    k0_pay2 (F := Ideal) g i = if (i 2).val < 108 then limit g else 2147483648#32 := by
  have el := lane_lt ⟨(i 2).val, (i 2).isLt⟩
  show Scalar.select (IntOp.cmpi .slt (iota .tc S1x1x112 32 [2] iota_S1x1x112_d2_w32 i) 108#32)
    (Ideal.fptosi 32 (Ideal.ofBits .f32 0xCF000000#32 + min (Ideal.ofBits .f32 0x3F800000#32) (max (Ideal.ofBits .f32 0x00000000#32) g)
      * Ideal.ofBits .f32 0x4F800000#32)) 2147483648#32 = _
  rw [iota_single_apply]
  refine (congrArg (fun b => Scalar.select b _ _) el).trans ?_
  rw [low_f32, one_f32, range_f32, Ideal.ofBits_zero_f32]
  unfold limit
  rw [sub_eq_add_neg, add_comm (-_)]
  by_cases h : (i 2).val < 108
  · rw [if_pos h, if_pos h]; rfl
  · rw [if_neg h, if_neg h]; rfl

/-- The mask at a place. -/
theorem mask_apply (g : Vec Ideal S1x1 .f32) (s : BitVec 32) (q : Fin 16) (r : Fin 108) (k : Fin 112) :
    tileMask (F := Ideal) g s (ValueIdx.ix3 q r k) = ind (Hit s (limit (gammaOf g)) q r k) := by
  unfold tileMask k0_pay8
  rw [shapeCast_self]
  show Scalar.select (IntOp.cmpi .slt (tileWords s (ValueIdx.ix3 q r k))
    (broadcastTo S16x108x112 (k0_pay2 (F := Ideal) (gammaOf g)) broadcasts_S1x1x112_S16x108x112 (ValueIdx.ix3 q r k)))
    (Ideal.ofBits .f32 0x3F800000#32) (Ideal.ofBits .f32 0x00000000#32) = _
  rw [broadcastTo_apply _ _ _ (ValueIdx.ix3 (0 : Fin 1) (0 : Fin 1) k) (fun a => by fin_cases a <;> rfl), limits_apply, one_f32, Ideal.ofBits_zero_f32]
  unfold ind Hit
  generalize tileWords s (ValueIdx.ix3 q r k) = x
  show Scalar.select (BitVec.ofBool (x.slt (if k.val < 108 then _ else _))) 1 0 = _
  by_cases h : k.val < 108
  · rw [if_pos h]
    cases hx : x.slt (limit (gammaOf g)) <;> simp [h, Scalar.select]
  · rw [if_neg h]
    have hx : x.slt 2147483648#32 = false := by
      rw [BitVec.slt, decide_eq_false_iff_not, not_lt]
      exact BitVec.le_toInt x
    simp [h, hx, Scalar.select]

/-- The padded mask at a row of the scratch plane. -/
theorem padded_apply (M : FVec Ideal S16x108x112 .f32) (q : Fin 16) (R : Fin 120) (k : Fin 112) :
    padded (F := Ideal) M (ValueIdx.ix3 q R k)
      = if h : 8 ≤ R.val ∧ R.val < 116 then M (ValueIdx.ix3 q (⟨R.val - 8, by omega⟩ : Fin 108) k) else 0 := by
  unfold padded VecWindow.put
  by_cases h : 8 ≤ R.val ∧ R.val < 116
  · have h' : ∀ a, (![0, 8, 0] : Fin 3 → ℕ) a ≤ ((ValueIdx.ix3 q R k : S16x120x112.Idx) a).val
        ∧ ((ValueIdx.ix3 q R k : S16x120x112.Idx) a).val < (![0, 8, 0] : Fin 3 → ℕ) a + (![16, 108, 112] : Fin 3 → ℕ) a := fun a => by
      have hq := q.isLt
      have hk := k.isLt
      fin_cases a
      · exact ⟨Nat.zero_le _, by simp⟩
      · exact ⟨h.1, h.2⟩
      · exact ⟨Nat.zero_le _, by simp⟩
    rw [dif_pos h]
    refine (dif_pos h').trans (congrArg M (funext fun a => ?_))
    fin_cases a <;> rfl
  · rw [dif_neg h]
    refine (dif_neg fun h' => h (h' 1)).trans ?_
    exact Ideal.ofBits_zero_f32

/-- The rows maximised: some block centre of the lane within the five rows up to this one. -/
def RowHit (s : BitVec 32) (L : BitVec 32) (q : Fin 16) (h : ℕ) (k : Fin 112) : Prop :=
  ∃ r : Fin 108, Hit s L q r k ∧ (r.val ≤ h ∧ h < r.val + 5)

/-- A row-shifted load of the padded mask, `d` rows before row `h`. -/
theorem shifted_apply (g : Vec Ideal S1x1 .f32) (s : BitVec 32) (o : ℕ) (d : ℕ) (hd : o + d = 8) (inb) (q : Fin 16) (h k : Fin 112) :
    VecWindow.window (padded (F := Ideal) (tileMask g s)) ![0, o, 0] ![16, 112, 112] inb (ValueIdx.ix3 q h k)
      = ind (∃ r : Fin 108, Hit s (limit (gammaOf g)) q r k ∧ r.val + d = h.val) := by
  have hh := h.isLt
  have e : (Rect.unit (s := S16x120x112) ![0, o, 0] ![16, 112, 112] inb).emb (ValueIdx.ix3 q h k)
      = ValueIdx.ix3 q (⟨o + h.val, by omega⟩ : Fin 120) k := by
    funext a
    fin_cases a
    · exact Fin.ext (show 0 + 1 * q.val = q.val by omega)
    · exact Fin.ext (show o + 1 * h.val = o + h.val by omega)
    · exact Fin.ext (show 0 + 1 * k.val = k.val by omega)
  show padded (F := Ideal) (tileMask g s) ((Rect.unit (s := S16x120x112) ![0, o, 0] ![16, 112, 112] inb).emb (ValueIdx.ix3 q h k)) = _
  rw [e, padded_apply]
  by_cases hr : 8 ≤ o + h.val ∧ o + h.val < 116
  · rw [dif_pos hr, mask_apply]
    refine ind_congr ⟨fun hh => ⟨_, hh, by show o + h.val - 8 + d = h.val; omega⟩, fun ⟨r, h1, h2⟩ => ?_⟩
    have : r = ⟨o + h.val - 8, by omega⟩ := Fin.ext (by show r.val = o + h.val - 8; omega)
    rw [← this]; exact h1
  · rw [dif_neg hr]
    unfold ind
    rw [if_neg]
    rintro ⟨r, -, h2⟩
    have := r.isLt
    omega

/-- The counts: how many lanes within the five up to this one have such a centre. -/
theorem count_apply (g : Vec Ideal S1x1 .f32) (b : Vec Ideal S112x112 .bf16) (s : BitVec 32) (q : Fin 16) (h w : Fin 112) :
    tileCount (F := Ideal) g b s (ValueIdx.ix3 q h w)
      = ∑ k : Fin 112, ind (RowHit s (limit (gammaOf g)) q h.val k) * b (ValueIdx.ix2 k w) := by
  have hh := h.isLt
  have hq := q.isLt
  unfold tileCount boxCount k0_pay41 k0_pay1
  rw [shapeCast_self]
  dsimp only
  rw [shapeCast_apply _ _ _ (ValueIdx.ix2 (⟨q.val * 112 + h.val, by omega⟩ : Fin 1792) w) (by
    rewrite [Shape.rowMajor_val_two, Shape.rowMajor_val_three]; rfl)]
  refine (Ideal.matmul_plain_apply (M := 1792) (K := 112) (N := 112) none _ _ _ _ _).trans ?_
  rw [ValueIdx.constant_apply, Ideal.ofBits_zero_f32, zero_add]
  refine Finset.sum_congr rfl fun k _ => congrArg (· * _) ?_
  rw [shapeCast_apply _ _ _ (ValueIdx.ix3 q h k) (by rewrite [Shape.rowMajor_val_two, Shape.rowMajor_val_three]; rfl)]
  simp only [ValueIdx.truncf_apply, ValueIdx.maximumf_apply]
  rw [shifted_apply g s 8 0 rfl, shifted_apply g s 7 1 rfl, shifted_apply g s 6 2 rfl, shifted_apply g s 5 3 rfl, shifted_apply g s 4 4 rfl]
  simp only [ind_max]
  refine ind_congr ⟨?_, ?_⟩
  · rintro (((⟨r, hr, e⟩ | ⟨r, hr, e⟩) | ⟨r, hr, e⟩ | ⟨r, hr, e⟩) | ⟨r, hr, e⟩) <;> exact ⟨r, hr, by omega, by omega⟩
  · rintro ⟨r, hr, h1, h2⟩
    have hd : h.val = r.val + 0 ∨ h.val = r.val + 1 ∨ h.val = r.val + 2 ∨ h.val = r.val + 3 ∨ h.val = r.val + 4 := by omega
    rcases hd with e | e | e | e | e
    · exact .inl (.inl (.inl ⟨r, hr, e.symm⟩))
    · exact .inl (.inl (.inr ⟨r, hr, e.symm⟩))
    · exact .inl (.inr (.inl ⟨r, hr, e.symm⟩))
    · exact .inl (.inr (.inr ⟨r, hr, e.symm⟩))
    · exact .inr ⟨r, hr, e.symm⟩

/-! ## The counts against one and one half -/

/-- A sum of ones and zeros is the number of ones. -/
theorem sum_ind {n : ℕ} (p : Fin n → Prop) : ∑ k, ind (p k) = (((Finset.univ.filter p).card : ℝ) : EReal) := by
  unfold ind
  rw [Finset.sum_ite, Finset.sum_const_zero, add_zero, Finset.sum_const, EReal.nsmul_eq_mul, mul_one]
  rfl

theorem min_sum_ind {n : ℕ} (p : Fin n → Prop) : min (∑ k, ind (p k)) 1 = ind (∃ k, p k) := by
  rw [sum_ind]
  unfold ind
  by_cases h : ∃ k, p k
  · rw [if_pos h]
    obtain ⟨k, hk⟩ := h
    have : 0 < (Finset.univ.filter p).card := Finset.card_pos.mpr ⟨k, by simpa using hk⟩
    exact min_eq_right (by exact_mod_cast this)
  · rw [if_neg h]
    have : (Finset.univ.filter p).card = 0 := by
      rw [Finset.card_eq_zero, Finset.filter_eq_empty_iff]; exact fun k _ hk => h ⟨k, hk⟩
    rw [this]; simp

theorem half_lt_sum_ind {n : ℕ} (p : Fin n → Prop) : ((1 / 2 : ℝ) : EReal) < ∑ k, ind (p k) ↔ ∃ k, p k := by
  rw [sum_ind, EReal.coe_lt_coe_iff]
  constructor
  · intro h
    by_contra hn
    have : (Finset.univ.filter p).card = 0 := by
      rw [Finset.card_eq_zero, Finset.filter_eq_empty_iff]; exact fun k _ hk => hn ⟨k, hk⟩
    rw [this] at h; norm_num at h
  · rintro ⟨k, hk⟩
    have h0 : 0 < (Finset.univ.filter p).card := Finset.card_pos.mpr ⟨k, by simpa using hk⟩
    have h1 : (1 : ℝ) ≤ ((Finset.univ.filter p).card : ℝ) := by exact_mod_cast h0
    linarith

/-- The banded matrix: one where the row is at most four before the column. -/
def Banded (b : Vec Ideal S112x112 .bf16) : Prop :=
  ∀ k w : Fin 112, b (ValueIdx.ix2 k w) = ind (k.val ≤ w.val ∧ w.val < k.val + 5)

theorem exists_iff (s : BitVec 32) (L : BitVec 32) (q : Fin 16) (h w : ℕ) :
    (∃ k : Fin 112, RowHit s L q h k ∧ (k.val ≤ w ∧ w < k.val + 5)) ↔ Dropped s L q h w :=
  ⟨fun ⟨k, ⟨r, hr, h1⟩, h2⟩ => ⟨r, k, hr, h1, h2⟩, fun ⟨r, k, hr, h1, h2⟩ => ⟨k, ⟨r, hr, h1⟩, h2⟩⟩

variable (g : Vec Ideal S1x1 .f32) (b : Vec Ideal S112x112 .bf16) (hb : Banded b) (s : BitVec 32) (q : Fin 16) (h w : Fin 112)
include hb

theorem count_eq : tileCount (F := Ideal) g b s (ValueIdx.ix3 q h w)
    = ∑ k : Fin 112, ind (RowHit s (limit (gammaOf g)) q h.val k ∧ (k.val ≤ w.val ∧ w.val < k.val + 5)) := by
  rw [count_apply]
  exact Finset.sum_congr rfl fun k _ => by rw [hb, ind_mul]

/-- The capped count is one where the position is dropped, zero elsewhere. -/
theorem capped : min (tileCount (F := Ideal) g b s (ValueIdx.ix3 q h w)) 1 = ind (Dropped s (limit (gammaOf g)) q h.val w.val) := by
  rw [count_eq g b hb, min_sum_ind, propext (exists_iff ..)]

/-- The count exceeds one half exactly where the position is dropped. -/
theorem above_half : ((1 / 2 : ℝ) : EReal) < tileCount (F := Ideal) g b s (ValueIdx.ix3 q h w) ↔ Dropped s (limit (gammaOf g)) q h.val w.val := by
  rw [count_eq g b hb, half_lt_sum_ind, exists_iff]

end Cert.KernelIdeal.TileIdeal
-- ==== Proof.KernelValue.lean ====
/-
  THE KERNEL'S RESULT OVER THE EXTENDED REALS, as a function of the arguments: zero at a dropped position, elsewhere the
  input times the number of positions over the number of kept ones.
-/
module

public import proofs.«01_k».proof.Proof.Region
public import proofs.«01_k».proof.Proof.TileIdeal
public import Idealize.ShloMosaic.Lib.StableHlo.Run

@[expose] public section

set_option maxRecDepth 16384

noncomputable section

open Idealize.ShloMosaic Idealize.ShloMosaic.TcCoe Idealize.SL.Sem
open scoped BigOperators

namespace Cert.KernelIdeal.KernelValue

open Cert.KernelIdeal Cert.KernelIdeal.Gen Cert.KernelIdeal.Tiles Cert.KernelIdeal.TileIdeal Cert.KernelIdeal.Region Cert.KernelIdeal.ApplyStep

attribute [local instance] Classical.propDecidable

/-! ## The arrays the region reads -/

variable (m : (ℓ : Loc nD τ sig) → Buf (Elt Ideal) ℓ) (c : Dev nD)

theorem gamma_eq : gammaArr m c = shapeCast S1x1 (m ((c.tc : Thread nD τ).loc main_arg1)) shapeCasts_S_S1x1 := by
  unfold gammaArr
  show StableHlo.after (List.flatten [hostOps0]) _ (Proc.devRef .tc main_v1) = _
  simp only [hostOps0, List.flatten_cons, List.flatten_nil, List.append_nil]
  after_results <;> rfl

theorem planes_eq : planes m c = shapeCast S1536x112x112 (m ((c.tc : Thread nD τ).loc main_arg0)) shapeCasts_S16x96x112x112_S1536x112x112 := by
  unfold planes
  show StableHlo.after (List.flatten [hostOps0]) _ (Proc.devRef .tc main_v0) = _
  simp only [hostOps0, List.flatten_cons, List.flatten_nil, List.append_nil]
  after_results <;> rfl

/-- Column minus row, as the host computes it. -/
def offset : IVec S112x112 32 :=
  subi (broadcastInDim S112x112 ![0, 1] bcast_S1x112_S112x112_0_1 (broadcastInDim S1x112 ![1] bcast_S112_S1x112_1 (iotaInDim S112 32 0)))
    (broadcastInDim S112x112 ![0, 1] bcast_S112x1_S112x112_0_1 (broadcastInDim S112x1 ![0] bcast_S112_S112x1_0 (iotaInDim S112 32 0)))

theorem band_eq : bandArr m c = uitofp (F := Ideal) .bf16 (andi
    (cmpi .sge offset (broadcastInDim S112x112 ![] bcast_S_S112x112 (constantI S_ 32 0#32)))
    (cmpi .slt offset (broadcastInDim S112x112 ![] bcast_S_S112x112 (constantI S_ 32 5#32)))) := by
  unfold bandArr
  show StableHlo.after (List.flatten [hostOps0]) _ (Proc.devRef .tc main_v14) = _
  simp only [hostOps0, List.flatten_cons, List.flatten_nil, List.append_nil]
  after_results <;> rfl

theorem offset_apply (k w : Fin 112) : offset (ValueIdx.ix2 k w) = BitVec.ofNat 32 w.val - BitVec.ofNat 32 k.val := rfl

theorem band_words : ∀ k w : Fin 112, IntOp.andi (IntOp.cmpi .sge (BitVec.ofNat 32 w.val - BitVec.ofNat 32 k.val) 0#32)
    (IntOp.cmpi .slt (BitVec.ofNat 32 w.val - BitVec.ofNat 32 k.val) 5#32) = if k.val ≤ w.val ∧ w.val < k.val + 5 then 1#1 else 0#1 := by
  decide +kernel

theorem banded : Banded (bandArr m c) := by
  intro k w
  rw [band_eq]
  show (((IntOp.andi (IntOp.cmpi .sge (offset (ValueIdx.ix2 k w)) 0#32) (IntOp.cmpi .slt (offset (ValueIdx.ix2 k w)) 5#32)).toNat : ℝ) : EReal) = _
  rw [offset_apply, band_words]
  unfold ind
  by_cases h : k.val ≤ w.val ∧ w.val < k.val + 5
  · rw [if_pos h, if_pos h]; simp
  · rw [if_neg h, if_neg h]; simp

/-! ## The accumulator -/

variable (g : Vec Ideal S1x1 .f32) (b : Vec Ideal S112x112 .bf16) (hb : Banded b)

/-- How many positions of the tile that seed `s` draws are dropped. -/
def drops (L s : BitVec 32) : EReal := ∑ z : S16x112x112.Idx, ind (Dropped s L (z 0) (z 1).val (z 2).val)

theorem total_eq (v : FVec Ideal S16x112x112 .f32) : total v = ∑ z : S16x112x112.Idx, v z := by
  unfold total
  show shapeCast S1x1x1x1 _ shapeCasts_S1_S1x1x1x1 _ = _
  refine (Ideal.multiReduction_add_total _ _ reduces_S1x16x112x112_S1 (fun b => by fin_cases b; rfl) _ _ _).trans ?_
  exact Equiv.sum_comp (Shape.reshapeEquiv shapeCasts_S16x112x112_S1x16x112x112) v

include hb in
theorem part_apply (s : BitVec 32) (n : ℕ) (z : S16x112x112.Idx) :
    part (F := Ideal) g b s n z = ∑ k ∈ Finset.range n, ind (Dropped (s + BitVec.ofNat 32 k) (limit (gammaOf g)) (z 0) (z 1).val (z 2).val) := by
  induction n with
  | zero => exact Ideal.ofBits_zero_f32
  | succ n ih =>
    rw [Finset.sum_range_succ, ← ih]
    show part (F := Ideal) g b s n z + min (tileCount (F := Ideal) g b (s + BitVec.ofNat 32 n) z) (Ideal.ofBits .f32 0x3F800000#32) = _
    rw [one_f32]
    have h := capped g b hb (s + BitVec.ofNat 32 n) (z 0) (z 1) (z 2)
    have hz : (ValueIdx.ix3 (z 0) (z 1) (z 2) : S16x112x112.Idx) = z := (ValueIdx.eq_ix3 z).symm
    exact congrArg (_ + ·) ((congrArg (fun y => min (tileCount (F := Ideal) g b (s + BitVec.ofNat 32 n) y) 1) hz.symm).trans h)

include hb in
theorem total_part (s : BitVec 32) (n : ℕ) :
    total (part (F := Ideal) g b s n) = ∑ k ∈ Finset.range n, drops (limit (gammaOf g)) (s + BitVec.ofNat 32 k) := by
  rw [total_eq]
  unfold drops
  rw [Finset.sum_comm]
  exact Finset.sum_congr rfl fun z _ => part_apply g b hb s n z

include hb in
/-- After counting step `n`: the dropped positions of the first `12 (n + 1)` tiles. -/
theorem acc_eq (n : ℕ) (hn : n < 8) :
    accAfter (F := Ideal) g b n = ∑ t ∈ Finset.range (12 * (n + 1)), drops (limit (gammaOf g)) (BitVec.ofNat 32 t) := by
  induction n with
  | zero =>
    show Ideal.ofBits .f32 0x00000000#32 + total (part (F := Ideal) g b (BitVec.ofNat 32 0 * 12#32) 12) = _
    rw [Ideal.ofBits_zero_f32, zero_add, total_part g b hb]
    refine Finset.sum_congr rfl fun t _ => congrArg _ ?_
    rw [BitVec.zero_mul, BitVec.zero_add]
  | succ n ih =>
    have e : 12 * (n + 1 + 1) = 12 * (n + 1) + 12 := by ring
    rw [e, Finset.sum_range_add, ← ih (by omega)]
    show (if n + 1 < 8 then _ else _) = _
    rw [if_pos hn]
    show accAfter (F := Ideal) g b n + total (part (F := Ideal) g b (BitVec.ofNat 32 (n + 1) * 12#32) 12) = _
    rw [total_part g b hb]
    refine congrArg (_ + ·) (Finset.sum_congr rfl fun t _ => congrArg _ ?_)
    apply BitVec.eq_of_toNat_eq
    simp only [BitVec.toNat_add, BitVec.toNat_mul, BitVec.toNat_ofNat]
    omega

/-- The position of the whole array is dropped. -/
def DroppedAt (L : BitVec 32) (j : S1536x112x112.Idx) : Prop :=
  Dropped (BitVec.ofNat 32 ((j 0).val / 16)) L (⟨(j 0).val % 16, Nat.mod_lt _ (by norm_num)⟩ : Fin 16) (j 1).val (j 2).val

/-- A tile and a place in it, against a place of the whole array. -/
def tileEquiv : Fin 96 × S16x112x112.Idx ≃ S1536x112x112.Idx where
  toFun p := ValueIdx.ix3 (⟨16 * p.1.val + (p.2 0).val, by have h0 := p.1.isLt; have h1 : (p.2 0).val < 16 := (p.2 0).isLt; omega⟩ : Fin 1536) (p.2 1) (p.2 2)
  invFun j := (⟨(j 0).val / 16, by have h : (j 0).val < 1536 := (j 0).isLt; omega⟩,
    ValueIdx.ix3 (⟨(j 0).val % 16, Nat.mod_lt _ (by norm_num)⟩ : Fin 16) (j 1) (j 2))
  left_inv p := by
    have h1 : (p.2 0).val < 16 := (p.2 0).isLt
    refine Prod.ext (Fin.ext (show (16 * p.1.val + (p.2 0).val) / 16 = p.1.val by omega)) (funext fun a => ?_)
    fin_cases a
    · exact Fin.ext (show (16 * p.1.val + (p.2 0).val) % 16 = (p.2 0).val by omega)
    · rfl
    · rfl
  right_inv j := by
    refine funext fun a => ?_
    fin_cases a
    · exact Fin.ext (show 16 * ((j 0).val / 16) + (j 0).val % 16 = (j 0).val by omega)
    · rfl
    · rfl

theorem sum_tiles (L : BitVec 32) :
    ∑ t ∈ Finset.range 96, drops L (BitVec.ofNat 32 t) = ∑ j : S1536x112x112.Idx, ind (DroppedAt L j) := by
  rw [← Equiv.sum_comp tileEquiv, Fintype.sum_prod_type, Finset.sum_range]
  unfold drops
  refine Finset.sum_congr rfl fun t _ => Finset.sum_congr rfl fun z _ => ?_
  have h1 : (z 0).val < 16 := (z 0).isLt
  unfold DroppedAt
  have e0 : ((tileEquiv (t, z)) 0).val / 16 = t.val := show (16 * t.val + (z 0).val) / 16 = t.val by omega
  have e1 : (⟨((tileEquiv (t, z)) 0).val % 16, Nat.mod_lt _ (by norm_num)⟩ : Fin 16) = z 0 :=
    Fin.ext (show (16 * t.val + (z 0).val) % 16 = (z 0).val by omega)
  rw [e0, e1]
  rfl

include hb in
theorem acc_all : accAfter (F := Ideal) g b 7 = ∑ j : S1536x112x112.Idx, ind (DroppedAt (limit (gammaOf g)) j) := by
  rw [acc_eq g b hb 7 (by norm_num)]
  exact sum_tiles _

/-! ## The result -/

/-- The result's element: the input `v` there, the limit `L`. -/
def dropBlock (L : BitVec 32) (v : EReal) (j : S1536x112x112.Idx) : EReal :=
  if DroppedAt L j then 0
  else v * Ideal.div ((19267584 : ℝ) : EReal) (((19267584 : ℝ) : EReal) - ∑ i : S1536x112x112.Idx, ind (DroppedAt L i))

include hb in
theorem result_eq (x : Vec Ideal S1536x112x112 .f32) (j : S1536x112x112.Idx) :
    result (F := Ideal) g b x j = dropBlock (limit (gammaOf g)) (x j) j := by
  unfold result dropOr dropBlock k0_pay39
  rw [acc_all g b hb]
  dsimp only [Scalar.subf, Scalar.divf]
  rw [Ideal.cmpf_def]
  simp only [Ideal.ofBits_def, Ideal.subf_def, Ideal.divf_def, Ideal.mulf_def]
  rw [half_f32, Ideal.ofBits_zero_f32, positions_f32]
  have h2 : Ideal.cmp .ogt (tileCount (F := Ideal) g b (BitVec.ofNat 32 ((j 0).val / 16))
      (ValueIdx.ix3 (⟨(j 0).val % 16, Nat.mod_lt _ (by norm_num)⟩ : Fin 16) (j 1) (j 2))) ((1 / 2 : ℝ) : EReal)
        = BitVec.ofBool (decide (DroppedAt (limit (gammaOf g)) j)) := by
    unfold Ideal.cmp
    exact congrArg BitVec.ofBool (decide_eq_decide.mpr (above_half g b hb _ _ _ _))
  refine (congrArg (fun q => Scalar.select q _ _) h2).trans ?_
  split_ifs with h
  · rw [decide_eq_true h]; rfl
  · rw [decide_eq_false h]; rfl

/-- THE KERNEL'S RESULT ARRAY. -/
theorem kernel_array (j : S1536x112x112.Idx) :
    ((dats m 0 c).arrAt 3 cfg0.N : Vec Ideal S1536x112x112 .f32) j
      = dropBlock (limit (m ((c.tc : Thread nD τ).loc main_arg1) ValueIdx.ix0))
          (m ((c.tc : Thread nD τ).loc main_arg0) (Shape.reshapeEquiv shapeCasts_S16x96x112x112_S1536x112x112 j)) j := by
  rw [array_eq, result_eq _ _ (banded m c), planes_eq]
  have e : gammaOf (gammaArr m c) = m ((c.tc : Thread nD τ).loc main_arg1) ValueIdx.ix0 := by
    unfold gammaOf
    rw [gamma_eq]
    exact congrArg (m ((c.tc : Thread nD τ).loc main_arg1)) (funext fun a => a.elim0)
  rw [e]
  rfl

end Cert.KernelIdeal.KernelValue
-- ==== Proof.Draw.lean ====
/-
  THE WORDS THE REFERENCE DRAWS. Its one region seeds the generator at step `k` with the `k`-th entry of a table of
  consecutive numbers and leaves the stream's words in planes `16 k` to `16 k + 15`: the words of the kernel's tile `k`.
-/
module

public import proofs.«01_k».proof.Proof.Tiles
public import proofs.«01_k».proof.Proof.Gen.ReferenceIdeal.Run
public import Idealize.ShloMosaic.Lib.Pipeline.ValueKit
public import Idealize.ShloMosaic.Lib.ValueIdx

@[expose] public section

set_option maxRecDepth 16384

noncomputable section

open Idealize.ShloMosaic Idealize.ShloMosaic.TcCoe Idealize.SL.Sem

namespace Cert.ReferenceIdeal.Draw

open Cert.ReferenceIdeal Cert.ReferenceIdeal.Gen Cert.KernelIdeal.Tiles

variable {F : FTy → Type} [FloatOps F]

/-- The words, plane by plane. -/
def words (j : S1536x108x112.Idx) : BitVec 32 :=
  tileWords (BitVec.ofNat 32 ((j 0).val / 16)) (ValueIdx.ix3 (⟨(j 0).val % 16, Nat.mod_lt _ (by norm_num)⟩ : Fin 16) (j 1) (j 2))

theorem coords_zero (t : Fin cfg0.N) : (grid0.coords t 0).val = t.val := by
  have ht : t.val < 96 := Nat.lt_of_lt_of_eq t.isLt N_0
  have e : (grid0.coords t 0).val = t.val / 1 % 96 := Pipeline.Grid.coords_val t 0 (by decide) rfl
  rw [e]; omega

theorem idx0 : ∀ t : Fin cfg0.N, win0_0.index t = ![0] := (by decide +kernel : ∀ t : Fin grid0.N, win0_0.index t = ![0])
theorem idx1 : ∀ t : Fin cfg0.N, win0_1.index t = ![t.val, 0, 0] := (by decide +kernel : ∀ t : Fin grid0.N, win0_1.index t = ![t.val, 0, 0])

/-- What one step leaves: the words of the stream the table's entry seeds. -/
theorem out_A (c : Dev nD) (i : grid0.Coords) (arg1 : Memref sig .tc .smem S96 .i32) (harg1 : arg1.IsWhole)
    (arg2 : Memref sig .tc .vmem S16x108x112 .i32) (harg2 : arg2.IsWhole) (x0 : Vec F S96 .i32) (g : PrngReg)
    (w : BitVec 32) (hw : ∀ z : S96.Idx, (z 0).val = (i 0).val → x0 z = w) :
    out0_A_1 c i arg1 harg1 arg2 harg2 x0 g = tileWords w := by
  unfold out0_A_1 kernelRun0_A
  dsimp only
  sl_unfold_words
  simp only [store_put, View.writes_nil, harg1.read_unread, List.map_cons, List.map_nil, Nat.zero_add]
  refine (put_whole (s := S16x108x112) _ _ _ inb_S16x108x112_S16x108x112_0_0_0).trans ?_
  have e : arg1.view.readAt (Elt F) (Rect.unit (s := S96) (k0_off1 i) S1.size (k0_off1_inb i)).toLoadRect (harg1.unread x0)
      (Shape.Idx.first (numel1_S1 ▸ Nat.one_pos)) = w := by
    rw [load_window, harg1.read_unread]
    exact hw _ (by show k0_off1 i 0 + 1 * 0 = _; rw [k0_off1_eq]; rfl)
  unfold tileWords
  rw [← e]
  rfl

variable (m : (ℓ : Loc nD τ sig) → Buf (Elt F) ℓ)

/-- The table of seeds as the region finds it. -/
theorem seeds_eq (c : Dev nD) : V m c main_v0 = iotaInDim S96 32 0 := by
  show StableHlo.after (List.flatten [hostOps0]) _ (Proc.devRef .tc main_v0) = _
  simp only [hostOps0, List.flatten_cons, List.flatten_nil, List.append_nil]
  after_results <;> rfl

theorem seed_at (c : Dev nD) (t : Fin cfg0.N) (z : S96.Idx) (hz : (z 0).val = t.val) : iblk m c 0 t z = BitVec.ofNat 32 t.val := by
  have e : iblk m c 0 t = V m c main_v0 := by
    funext y
    blk_ext [iblk, idx0]
  rw [e, seeds_eq, ← hz]
  rfl

theorem array_eq (c : Dev nD) : Value.reg_main_v1 m c = words := by
  unfold Value.reg_main_v1
  refine (dats m 0 c).arrAt_eq_of_covers 1 _ (by decide +kernel) fun t hf y => ?_
  have hy0 : (y 0).val < 16 := (y 0).isLt
  blk_simp
  rw [after0_1]
  unfold outsAt0
  rw [out_A (w := BitVec.ofNat 32 t.val) (hw := fun z hz => seed_at m c t z (by rw [hz, coords_zero]))]
  have e0 : ((((cfg0.win 1).blk t).view.emb y) 0).val = t.val * 16 + (y 0).val := by blk_simp [idx1]
  have e1 : ((((cfg0.win 1).blk t).view.emb y) 1).val = (y 1).val := by blk_simp [idx1]
  have e2 : ((((cfg0.win 1).blk t).view.emb y) 2).val = (y 2).val := by blk_simp [idx1]
  generalize ((cfg0.win 1).blk t).view.emb y = j at e0 e1 e2 ⊢
  unfold words
  rw [show (j 0).val / 16 = t.val by omega]
  refine congrArg _ (funext fun a => ?_)
  fin_cases a
  · exact Fin.ext (show (y 0).val = (j 0).val % 16 by omega)
  · exact Fin.ext e1.symm
  · exact Fin.ext e2.symm

end Cert.ReferenceIdeal.Draw
-- ==== Proof.Window.lean ====
/-
  THE BOX MAXIMUM, as the reference takes it: a window of five by five places over planes padded by four with the least
  value. The maximum at a position is a value `B` when no place whose box covers the position exceeds it and one attains it.
-/
module

public import proofs.«01_k».proof.Proof.Gen.ReferenceIdeal.Read
public import Idealize.ShloMosaic.Lib.ValueIdx

@[expose] public section

set_option maxRecDepth 16384

noncomputable section

open Idealize.ShloMosaic Idealize.ShloMosaic.TcCoe

namespace Cert.ReferenceIdeal.Window

open Cert.ReferenceIdeal Cert.ReferenceIdeal.Gen

/-- A running maximum from below everything is `B` if nothing exceeds `B` and something reaches it. -/
theorem fold_max {α : Type} (l : List α) (f : α → EReal) (B : EReal) (hle : ∀ n ∈ l, f n ≤ B) (hge : ∃ n ∈ l, B ≤ f n) :
    l.foldl (fun r n => max r (f n)) ⊥ = B := by
  have grow : ∀ (l : List α) (r : EReal), r ≤ l.foldl (fun r n => max r (f n)) r := by
    intro l
    induction l with
    | nil => exact fun r => le_refl r
    | cons a l ih => exact fun r => (le_max_left r (f a)).trans (ih _)
  have above : ∀ (l : List α) (r : EReal), ∀ n ∈ l, f n ≤ l.foldl (fun r n => max r (f n)) r := by
    intro l
    induction l with
    | nil => intro r n hn; cases hn
    | cons a l ih =>
      intro r n hn
      rcases List.mem_cons.mp hn with rfl | hn
      · exact (le_max_right r _).trans (grow l _)
      · exact ih _ n hn
  have below : ∀ (l : List α) (r : EReal), r ≤ B → (∀ n ∈ l, f n ≤ B) → l.foldl (fun r n => max r (f n)) r ≤ B := by
    intro l
    induction l with
    | nil => exact fun r hr _ => hr
    | cons a l ih =>
      intro r hr h
      exact ih _ (max_le hr (h a List.mem_cons_self)) fun n hn => h n (List.mem_cons_of_mem a hn)
  obtain ⟨n, hn, h⟩ := hge
  exact le_antisymm (below l ⊥ bot_le hle) (h.trans (above l ⊥ n hn))

/-- The maximum over a window at any shape: the elements it takes are those at window places `w` and operand places `q`
    that meet at the position, counted from the padding. -/
theorem reduce_max {s t u : Shape} (window strides lo hi : Fin s.rank → ℕ) (x : s.Idx → EReal) (init : u.Idx → EReal)
    (h : s.ReduceWindows window strides lo hi t) (hu : 0 < u.numel) (j : t.Idx) (B : EReal)
    (hinit : init (Shape.Idx.first hu) = ⊥)
    (hle : ∀ (w : Shape.Idx ⟨s.rank, window⟩) (q : s.Idx),
      (∀ a : Fin s.rank, lo a + (q a).val = (j (a.cast h.1.symm)).val * strides a + (w a).val) → x q ≤ B)
    (hge : ∃ (w : Shape.Idx ⟨s.rank, window⟩) (q : s.Idx),
      (∀ a : Fin s.rank, lo a + (q a).val = (j (a.cast h.1.symm)).val * strides a + (w a).val) ∧ B ≤ x q) :
    Host.reduceWindow (fun a b => max a b) window strides lo hi x init h hu j = B := by
  unfold Host.reduceWindow
  dsimp only
  rw [hinit]
  refine fold_max _ _ B (fun n _ => ?_) ?_
  · split_ifs with hin
    · exact hle ((Shape.rowMajor ⟨s.rank, window⟩).symm n) _ fun a => Nat.add_sub_cancel' (hin a).1
    · exact bot_le
  · obtain ⟨w, q, hq, hB⟩ := hge
    refine ⟨(Shape.rowMajor ⟨s.rank, window⟩) w, List.mem_finRange _, ?_⟩
    have hw : (Shape.rowMajor ⟨s.rank, window⟩).symm ((Shape.rowMajor ⟨s.rank, window⟩) w) = w := Equiv.symm_apply_apply _ w
    have hp : ∀ a : Fin s.rank, (j (a.cast h.1.symm)).val * strides a
        + ((Shape.rowMajor ⟨s.rank, window⟩).symm ((Shape.rowMajor ⟨s.rank, window⟩) w) a).val = lo a + (q a).val := by
      intro a; rw [hw, hq a]
    rw [dif_pos (fun a => by rw [hp a, Nat.add_sub_cancel_left]; exact ⟨Nat.le_add_right _ _, (q a).isLt⟩)]
    exact hB.trans (le_of_eq (congrArg x (funext fun a => Fin.ext (by
      show (q a).val = _ - lo a
      rw [hp a, Nat.add_sub_cancel_left]))))

/-- The box of block centre `q` covers position `j`. -/
def Covers (q : S16x96x108x108.Idx) (j : S16x96x112x112.Idx) : Prop :=
  (q 0).val = (j 0).val ∧ (q 1).val = (j 1).val ∧ ((q 2).val ≤ (j 2).val ∧ (j 2).val < (q 2).val + 5)
    ∧ ((q 3).val ≤ (j 3).val ∧ (j 3).val < (q 3).val + 5)

theorem window_max (x : S16x96x108x108.Idx → EReal) (init : S_.Idx → EReal) (h) (hu) (j : S16x96x112x112.Idx) (B : EReal)
    (hinit : init (Shape.Idx.first hu) = ⊥) (hle : ∀ q, Covers q j → x q ≤ B) (hge : ∃ q, Covers q j ∧ B ≤ x q) :
    Host.reduceWindow (s := S16x96x108x108) (t := S16x96x112x112) (fun a b => max a b) ![1, 1, 5, 5] ![1, 1, 1, 1] ![0, 0, 4, 4] ![0, 0, 4, 4] x init h hu j = B := by
  refine reduce_max (s := S16x96x108x108) (t := S16x96x112x112) _ _ _ _ x init h hu j B hinit (fun w q e => ?_) ?_
  · have w0 : (w 0).val < 1 := (w 0).isLt
    have w1 : (w 1).val < 1 := (w 1).isLt
    have w2 : (w 2).val < 5 := (w 2).isLt
    have w3 : (w 3).val < 5 := (w 3).isLt
    have e0 : 0 + (q 0).val = (j 0).val * 1 + (w 0).val := e 0
    have e1 : 0 + (q 1).val = (j 1).val * 1 + (w 1).val := e 1
    have e2 : 4 + (q 2).val = (j 2).val * 1 + (w 2).val := e 2
    have e3 : 4 + (q 3).val = (j 3).val * 1 + (w 3).val := e 3
    exact hle q ⟨by omega, by omega, ⟨by omega, by omega⟩, by omega, by omega⟩
  · obtain ⟨q, ⟨q0, q1, ⟨q2, q2'⟩, q3, q3'⟩, hB⟩ := hge
    refine ⟨ValueIdx.ix4 (0 : Fin 1) (0 : Fin 1) (⟨(q 2).val + 4 - (j 2).val, by omega⟩ : Fin 5)
      (⟨(q 3).val + 4 - (j 3).val, by omega⟩ : Fin 5), q, ?_, hB⟩
    intro a
    fin_cases a
    · show 0 + (q 0).val = (j 0).val * 1 + 0; omega
    · show 0 + (q 1).val = (j 1).val * 1 + 0; omega
    · show 4 + (q 2).val = (j 2).val * 1 + ((q 2).val + 4 - (j 2).val); omega
    · show 4 + (q 3).val = (j 3).val * 1 + ((q 3).val + 4 - (j 3).val); omega

end Cert.ReferenceIdeal.Window
-- ==== Proof.ReferenceValue.lean ====
/-
  THE REFERENCE'S RESULT OVER THE EXTENDED REALS: the same function of the arguments as the kernel's.
-/
module

public import proofs.«01_k».proof.Proof.KernelValue
public import proofs.«01_k».proof.Proof.Draw
public import proofs.«01_k».proof.Proof.Window

@[expose] public section

set_option maxRecDepth 16384

noncomputable section

open Idealize.ShloMosaic Idealize.ShloMosaic.TcCoe Idealize.SL.Sem
open scoped BigOperators

namespace Cert.ReferenceIdeal.ReferenceValue

open Cert.ReferenceIdeal Cert.ReferenceIdeal.Gen Cert.ReferenceIdeal.Read Cert.ReferenceIdeal.Draw Cert.ReferenceIdeal.Window
open Cert.KernelIdeal.Tiles (tileWords)
open Cert.KernelIdeal.TileIdeal Cert.KernelIdeal.KernelValue

attribute [local instance] Classical.propDecidable

variable (x0 : (⟨S16x96x112x112, .f32⟩ : BufTy).Contents (Elt Ideal)) (x1 : (⟨S_, .f32⟩ : BufTy).Contents (Elt Ideal))

/-- The limit, as the reference computes it. -/
theorem limit_eq (i : S_.Idx) : val_main_v7 (F := Ideal) x1 i = limit (x1 ValueIdx.ix0) := by
  have hi : i = ValueIdx.ix0 := funext fun a => a.elim0
  subst hi
  show Ideal.fptosi 32 (min (Ideal.ofBits .f32 0x3F800000#32) (max (Ideal.ofBits .f32 0x00000000#32) (x1 _))
    * Ideal.ofBits .f32 0x4F800000#32 - Ideal.ofBits .f32 0x4F000000#32) = _
  rw [one_f32, Ideal.ofBits_zero_f32, range_f32, high_f32]
  rfl

/-- The word at block centre `q` lies below the limit. -/
def Centre (L : BitVec 32) (q : S16x96x108x108.Idx) : Prop := (words (idx_main_v2 (idx_main_v3 q))).slt L = true

theorem mask_eq (q : S16x96x108x108.Idx) : val_main_v10 (F := Ideal) x1 words q = ind (Centre (limit (x1 ValueIdx.ix0)) q) := by
  rw [val_main_v10_apply, val_main_v9_apply, val_main_v8_apply, limit_eq, val_main_v3_apply, val_main_v2_apply]
  show (((BitVec.ofBool ((words (idx_main_v2 (idx_main_v3 q))).slt (limit (x1 ValueIdx.ix0)))).toNat : ℝ) : EReal) = _
  unfold ind Centre
  by_cases h : (words (idx_main_v2 (idx_main_v3 q))).slt (limit (x1 ValueIdx.ix0)) = true
  · rw [if_pos h, h]; simp
  · rw [if_neg h, Bool.eq_false_iff.mpr h]; simp

/-- The place of the four-axis array that a place of the result holds. -/
def place (j : S1536x112x112.Idx) : S16x96x112x112.Idx :=
  ValueIdx.ix4 (⟨(j 0).val / 96, by have h : (j 0).val < 1536 := (j 0).isLt; omega⟩ : Fin 16)
    (⟨(j 0).val % 96, Nat.mod_lt _ (by norm_num)⟩ : Fin 96) (j 1) (j 2)

theorem reshape_place (j : S1536x112x112.Idx) : Shape.reshapeEquiv shapeCasts_S16x96x112x112_S1536x112x112 j = place j := by
  apply Shape.reshapeEquiv_eq_of_rowMajor
  rw [Shape.rowMajor_val_four, Shape.rowMajor_val_three]
  show (((j 0).val / 96 * 96 + (j 0).val % 96) * 112 + (j 1).val) * 112 + (j 2).val = ((j 0).val * 112 + (j 1).val) * 112 + (j 2).val
  omega

/-- The word of the block centre at row `r` and column `k` of the plane of `j`. -/
theorem words_at (j : S1536x112x112.Idx) (q : S16x96x108x108.Idx) (h0 : (q 0).val = (j 0).val / 96) (h1 : (q 1).val = (j 0).val % 96)
    (r : Fin 108) (k : Fin 112) (hr : r.val = (q 2).val) (hk : k.val = (q 3).val) :
    words (idx_main_v2 (idx_main_v3 q))
      = tileWords (BitVec.ofNat 32 ((j 0).val / 16)) (ValueIdx.ix3 (⟨(j 0).val % 16, Nat.mod_lt _ (by norm_num)⟩ : Fin 16) r k) := by
  have b0 : (j 0).val < 1536 := (j 0).isLt
  have b2 : (q 2).val < 108 := (q 2).isLt
  have b3 : (q 3).val < 108 := (q 3).isLt
  have e0 : ((((q 0).val * 96 + (q 1).val) * 108 + (q 2).val) * 112 + (q 3).val) / 12096 = (j 0).val := by omega
  have e1 : ((((q 0).val * 96 + (q 1).val) * 108 + (q 2).val) * 112 + (q 3).val) / 112 % 108 = r.val := by omega
  have e2 : ((((q 0).val * 96 + (q 1).val) * 108 + (q 2).val) * 112 + (q 3).val) % 112 = k.val := by omega
  have e : idx_main_v2 (idx_main_v3 q) = (ValueIdx.ix3 (j 0) r k : S1536x108x112.Idx) := by
    funext a
    fin_cases a
    · exact Fin.ext e0
    · exact Fin.ext e1
    · exact Fin.ext e2
  rw [e]
  rfl

/-- THE DILATED MASK marks the dropped positions. -/
theorem dilated (j : S1536x112x112.Idx) :
    val_main_v12 (F := Ideal) x1 words (place j) = ind (DroppedAt (limit (x1 ValueIdx.ix0)) j) := by
  have b0 : (j 0).val < 1536 := (j 0).isLt
  have b1 : (j 1).val < 112 := (j 1).isLt
  have b2 : (j 2).val < 112 := (j 2).isLt
  unfold val_main_v12
  refine window_max _ _ _ _ _ _ bottom_f32 (fun q hq => ?_) ?_
  · obtain ⟨q0, q1, q2, q3⟩ := hq
    rw [mask_eq]
    unfold ind
    by_cases hc : Centre (limit (x1 ValueIdx.ix0)) q
    · have c3 : (q 3).val < 108 := (q 3).isLt
      have hw := hc
      unfold Centre at hw
      rw [words_at j q q0 q1 (q 2) ⟨(q 3).val, by omega⟩ rfl rfl] at hw
      have hd : DroppedAt (limit (x1 ValueIdx.ix0)) j :=
        ⟨q 2, ⟨(q 3).val, by omega⟩, ⟨c3, hw⟩, q2, q3⟩
      rw [if_pos hc, if_pos hd]
    · rw [if_neg hc]
      split_ifs
      · exact zero_le_one
      · exact le_refl _
  · by_cases hd : DroppedAt (limit (x1 ValueIdx.ix0)) j
    · obtain ⟨r, k, ⟨hk, hw⟩, hr', hk'⟩ := hd
      let q : S16x96x108x108.Idx := ValueIdx.ix4 (⟨(j 0).val / 96, by omega⟩ : Fin 16)
        (⟨(j 0).val % 96, Nat.mod_lt _ (by norm_num)⟩ : Fin 96) r (⟨k.val, hk⟩ : Fin 108)
      have hc : Centre (limit (x1 ValueIdx.ix0)) q := by
        unfold Centre
        rw [words_at j q rfl rfl r k rfl rfl]
        exact hw
      refine ⟨q, ⟨rfl, rfl, hr', hk'⟩, ?_⟩
      rw [mask_eq]
      unfold ind
      rw [if_pos hc]
      split_ifs
      · exact le_refl _
      · exact zero_le_one
    · refine ⟨ValueIdx.ix4 (⟨(j 0).val / 96, by omega⟩ : Fin 16) (⟨(j 0).val % 96, Nat.mod_lt _ (by norm_num)⟩ : Fin 96)
        (⟨min (j 1).val 107, by omega⟩ : Fin 108) (⟨min (j 2).val 107, by omega⟩ : Fin 108), ⟨rfl, rfl, ⟨?_, ?_⟩, ?_, ?_⟩, ?_⟩
      · show min (j 1).val 107 ≤ (j 1).val; omega
      · show (j 1).val < min (j 1).val 107 + 5; omega
      · show min (j 2).val 107 ≤ (j 2).val; omega
      · show (j 2).val < min (j 2).val 107 + 5; omega
      · rw [mask_eq]
        unfold ind
        rw [if_neg hd]
        split_ifs
        · exact zero_le_one
        · exact le_refl _

/-- The kept positions' mask. -/
theorem kept (j : S1536x112x112.Idx) :
    val_main_v14 (F := Ideal) x1 words (place j) = 1 - ind (DroppedAt (limit (x1 ValueIdx.ix0)) j) := by
  rw [val_main_v14_apply, dilated]
  show Ideal.ofBits .f32 0x3F800000#32 - _ = _
  rw [one_f32]

/-- How many positions a sum of kept ones counts: all but the dropped. -/
theorem sum_kept (p : S1536x112x112.Idx → Prop) :
    ∑ j, (1 - ind (p j)) = ((19267584 : ℝ) : EReal) - ∑ j, ind (p j) := by
  have hi : ∀ j, ind (p j) = (((if p j then 1 else 0 : ℝ)) : EReal) := by
    intro j; unfold ind; split_ifs <;> simp
  have hs : ∀ j, 1 - ind (p j) = (((1 - if p j then 1 else 0 : ℝ)) : EReal) := by
    intro j; rw [hi, EReal.coe_sub]; rfl
  have hcoe : ∀ f : S1536x112x112.Idx → ℝ, ∑ j, ((f j : ℝ) : EReal) = ((∑ j, f j : ℝ) : EReal) := fun f =>
    (map_sum (⟨⟨Real.toEReal, EReal.coe_zero⟩, EReal.coe_add⟩ : ℝ →+ EReal) f Finset.univ).symm
  have hcard : Fintype.card S1536x112x112.Idx = 19267584 := by
    rw [Shape.card_idx]
    show Shape.numel S1536x112x112 = _
    decide +kernel
  rw [Finset.sum_congr rfl fun j _ => hs j, Finset.sum_congr rfl fun j _ => hi j, hcoe, hcoe, ← EReal.coe_sub,
    Finset.sum_sub_distrib, Finset.sum_const, Finset.card_univ, hcard]
  norm_num

/-- The number of kept positions. -/
theorem count_eq (i : S_.Idx) : val_main_v15 (F := Ideal) x1 words i
    = ((19267584 : ℝ) : EReal) - ∑ j : S1536x112x112.Idx, ind (DroppedAt (limit (x1 ValueIdx.ix0)) j) := by
  rw [val_main_v15_apply, ← Equiv.sum_comp (Shape.reshapeEquiv shapeCasts_S16x96x112x112_S1536x112x112),
    Finset.sum_congr rfl fun j _ => (congrArg _ (reshape_place j)).trans (kept x1 j), sum_kept]
  show Ideal.ofBits .f32 0x00000000#32 + _ = _
  rw [Ideal.ofBits_zero_f32, zero_add]

/-- THE REFERENCE'S RESULT. -/
theorem value_eq (j : S1536x112x112.Idx) :
    val_main_v20 (F := Ideal) x0 x1 words j
      = dropBlock (limit (x1 ValueIdx.ix0)) (x0 (Shape.reshapeEquiv shapeCasts_S16x96x112x112_S1536x112x112 j)) j := by
  show val_main_v19 (F := Ideal) x0 x1 words (Shape.reshapeEquiv shapeCasts_S16x96x112x112_S1536x112x112 j) = _
  rw [reshape_place, val_main_v19_apply, val_main_v16_apply, val_main_v18_apply, val_main_v17_apply, count_eq, kept]
  show (1 - ind _) * x0 (place j) * Ideal.div (Ideal.ofBits .f32 0x4B930000#32) _ = _
  rw [positions_f32]
  unfold dropBlock
  by_cases hd : DroppedAt (limit (x1 ValueIdx.ix0)) j
  · have e : (1 : EReal) - ind (DroppedAt (limit (x1 ValueIdx.ix0)) j) = 0 := by
      unfold ind; rw [if_pos hd]; exact EReal.sub_self (EReal.coe_ne_top 1) (EReal.coe_ne_bot 1)
    rw [if_pos hd, e, zero_mul, zero_mul]
  · have e : (1 : EReal) - ind (DroppedAt (limit (x1 ValueIdx.ix0)) j) = 1 := by
      unfold ind; rw [if_neg hd, sub_zero]
    rw [if_neg hd, e, one_mul]

end Cert.ReferenceIdeal.ReferenceValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- THE RESULTS ARE EQUAL: both programs end with `KernelValue.dropBlock` of the arguments at every place. -/
theorem results : @Cert.algebraic_KernelIdeal_ReferenceIdeal Cert.KernelIdeal.Gen.facts Cert.ReferenceIdeal.Gen.facts := by
  intro m g m' g' _ hm
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  rw [Cert.ReferenceIdeal.Draw.array_eq m' c]
  funext j
  refine (Cert.ReferenceIdeal.ReferenceValue.value_eq _ _ j).trans ?_
  refine Eq.trans ?_ (Cert.KernelIdeal.KernelValue.kernel_array m c j).symm
  rw [(hm c).1, (hm c).2]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, results⟩

end Cert.Proof

end
